-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S4x2048x8192 : Shape := ⟨3, ![4, 2048, 8192]⟩
abbrev S512x8192 : Shape := ⟨2, ![512, 8192]⟩
abbrev S2048x1024 : Shape := ⟨2, ![2048, 1024]⟩
abbrev S512x1024 : Shape := ⟨2, ![512, 1024]⟩
abbrev S_ : Shape := ⟨0, ![]⟩
abbrev S6 : Shape := ⟨1, ![6]⟩
abbrev S1x512x8192 : Shape := ⟨3, ![1, 512, 8192]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S8192x1024, .f32⟩
  | .hbm, ⟨2, _⟩ => ⟨S8192x1024, .f32⟩
  | .hbm, ⟨3, _⟩ => ⟨S4x2048x8192, .bf16⟩
  | .local _ .vmem, ⟨0, _⟩ => ⟨S512x8192, .f32⟩
  | .local _ .vmem, ⟨1, _⟩ => ⟨S512x8192, .bf16⟩
  | .local _ .vmem, ⟨2, _⟩ => ⟨S8192x1024, .bf16⟩
  | .local _ .vmem, ⟨3, _⟩ => ⟨S2048x1024, .f32⟩
  | .local _ .vmem, ⟨4, _⟩ => ⟨S512x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
@[reducible] def k0_t1_loop : Scf.Loop 32 :=
  let c0_i32_26 : BitVec 32 := 0#32
  let c4_i32_27 : BitVec 32 := 4#32
  let v41 : BitVec 32 := Scalar.addi c0_i32_26 c4_i32_27
  let c1_i32_28 : BitVec 32 := 1#32
  ⟨c0_i32_26, v41, c1_i32_28⟩
def k0_off1 (k0_t1 : Fin k0_t1_loop.trips) : Fin 2 → Nat :=
  let c0_i32_26 : BitVec 32 := 0#32
  let c1_i32_28 : BitVec 32 := 1#32
  let arg14 : BitVec 32 := Scf.iv c0_i32_26 c1_i32_28 k0_t1
  let c512_i32 : BitVec 32 := 512#32
  let v47 : BitVec 32 := Scalar.muli arg14 c512_i32
  let c0_i32_49 : BitVec 32 := 0#32
  ![v47.toNat, 0]
def k0_off2 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let c1_i32_28 : BitVec 32 := 1#32
  let arg14 : BitVec 32 := Scf.iv c0_i32_26 c1_i32_28 k0_t1
  let c512_i32_54 : BitVec 32 := 512#32
  let v55 : BitVec 32 := Scalar.muli arg14 c512_i32_54
  let c0_i32_55 : BitVec 32 := 0#32
  ![v2.toNat, v55.toNat, 0]
def k0_off3 (k0_t1 : Fin k0_t1_loop.trips) : Fin 1 → Nat :=
  let c0_i32_26 : BitVec 32 := 0#32
  let c1_i32_28 : BitVec 32 := 1#32
  let arg14 : BitVec 32 := Scf.iv c0_i32_26 c1_i32_28 k0_t1
  ![arg14.toNat]
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_59 : BitVec 32 := 1#32
  let v62 : BitVec 32 := Scalar.muli v24 c1_i32_59
  let v63 : BitVec 32 := Scalar.addi c0_i32_60 v62
  v63.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_65 : BitVec 32 := 1#32
  let v74 : BitVec 32 := Scalar.muli v13 c1_i32_65
  let v75 : BitVec 32 := Scalar.addi c0_i32_66 v74
  v75.toNat
@[reducible] def k0_t2_loop : Scf.Loop 32 :=
  let c0_i32_30 : BitVec 32 := 0#32
  let c4_i32_31 : BitVec 32 := 4#32
  let v42 : BitVec 32 := Scalar.addi c0_i32_30 c4_i32_31
  let c1_i32_32 : BitVec 32 := 1#32
  ⟨c0_i32_30, v42, c1_i32_32⟩
def k0_off4 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c2048_i32 : BitVec 32 := 2048#32
  let v47 : BitVec 32 := Scalar.muli arg14 c2048_i32
  let c0_i32_49 : BitVec 32 := 0#32
  ![v47.toNat, 0]
def k0_off5 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c2048_i32_52 : BitVec 32 := 2048#32
  let v52 : BitVec 32 := Scalar.muli arg14 c2048_i32_52
  let v53 : Index := Scalar.indexCast v52
  let c0_53 : Index := 0#32
  ![v53.toNat, 0]
@[reducible] def k0_t3_loop : Scf.Loop 32 :=
  let c0_i32_34 : BitVec 32 := 0#32
  let c4_i32_35 : BitVec 32 := 4#32
  let v43 : BitVec 32 := Scalar.addi c0_i32_34 c4_i32_35
  let c1_i32_36 : BitVec 32 := 1#32
  ⟨c0_i32_34, v43, c1_i32_36⟩
def k0_off6 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_34 : BitVec 32 := 0#32
  let c1_i32_36 : BitVec 32 := 1#32
  let arg14 : BitVec 32 := Scf.iv c0_i32_34 c1_i32_36 k0_t3
  let c512_i32 : BitVec 32 := 512#32
  let v47 : BitVec 32 := Scalar.muli arg14 c512_i32
  let c0_i32_49 : BitVec 32 := 0#32
  ![v2.toNat, v47.toNat, 0]
def k0_off7 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v58 : BitVec 32 := Scalar.muli v2 c2048_i32
  let c0_i32_34 : BitVec 32 := 0#32
  let c1_i32_36 : BitVec 32 := 1#32
  let arg14 : BitVec 32 := Scf.iv c0_i32_34 c1_i32_36 k0_t3
  let c512_i32_56 : BitVec 32 := 512#32
  let v59 : BitVec 32 := Scalar.muli arg14 c512_i32_56
  let v60 : BitVec 32 := Scalar.addi v58 v59
  let c0_i32_57 : BitVec 32 := 0#32
  ![v60.toNat, 0]
@[reducible] def k0_t4_loop : Scf.Loop 32 :=
  let c0_i32_38 : BitVec 32 := 0#32
  let c4_i32_39 : BitVec 32 := 4#32
  let v44 : BitVec 32 := Scalar.addi c0_i32_38 c4_i32_39
  let c1_i32_40 : BitVec 32 := 1#32
  ⟨c0_i32_38, v44, c1_i32_40⟩
def k0_off8 (k0_t4 : Fin k0_t4_loop.trips) : Fin 1 → Nat :=
  let c0_i32_38 : BitVec 32 := 0#32
  let c1_i32_40 : BitVec 32 := 1#32
  let arg14 : BitVec 32 := Scf.iv c0_i32_38 c1_i32_40 k0_t4
  ![arg14.toNat]
def k0_off9 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_38 : BitVec 32 := 0#32
  let c1_i32_40 : BitVec 32 := 1#32
  let arg14 : BitVec 32 := Scf.iv c0_i32_38 c1_i32_40 k0_t4
  let c512_i32_49 : BitVec 32 := 512#32
  let v48 : BitVec 32 := Scalar.muli arg14 c512_i32_49
  let c0_i32_52 : BitVec 32 := 0#32
  ![v13.toNat, v48.toNat, 0]
def k0_cond1 (k0_t4 : Fin k0_t4_loop.trips) : BitVec 1 :=
  let c0_i32_38 : BitVec 32 := 0#32
  let c1_i32_40 : BitVec 32 := 1#32
  let arg14 : BitVec 32 := Scf.iv c0_i32_38 c1_i32_40 k0_t4
  let c2_i32_54 : BitVec 32 := 2#32
  let v57 : BitVec 1 := Scalar.cmpi .slt arg14 c2_i32_54
  let v58 : BitVec 32 := Scalar.extui v57
  let c0_i32_55 : BitVec 32 := 0#32
  let v59 : BitVec 1 := Scalar.cmpi .ne v58 c0_i32_55
  v59

def k0_off10 (k0_t4 : Fin k0_t4_loop.trips) : Fin 1 → Nat :=
  let c4_i32_91 : BitVec 32 := 4#32
  let c0_i32_38 : BitVec 32 := 0#32
  let c1_i32_40 : BitVec 32 := 1#32
  let arg14 : BitVec 32 := Scf.iv c0_i32_38 c1_i32_40 k0_t4
  let v107 : BitVec 32 := Scalar.addi c4_i32_91 arg14
  ![v107.toNat]
def k0_off11 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_38 : BitVec 32 := 0#32
  let c1_i32_40 : BitVec 32 := 1#32
  let arg14 : BitVec 32 := Scf.iv c0_i32_38 c1_i32_40 k0_t4
  let c512_i32_90 : BitVec 32 := 512#32
  let v106 : BitVec 32 := Scalar.muli arg14 c512_i32_90
  let c0_i32_95 : BitVec 32 := 0#32
  ![v13.toNat, v106.toNat, 0]
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_93 : BitVec 32 := 1#32
  let v109 : BitVec 32 := Scalar.muli v24 c1_i32_93
  let v110 : BitVec 32 := Scalar.addi c0_i32_94 v109
  v110.toNat
def k0_off12 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32 : BitVec 32 := 2048#32
  let v71 : BitVec 32 := Scalar.muli v13 c2048_i32
  let c0_i32_38 : BitVec 32 := 0#32
  let c1_i32_40 : BitVec 32 := 1#32
  let arg14 : BitVec 32 := Scf.iv c0_i32_38 c1_i32_40 k0_t4
  let c512_i32_64 : BitVec 32 := 512#32
  let v72 : BitVec 32 := Scalar.muli arg14 c512_i32_64
  let v73 : BitVec 32 := Scalar.addi v71 v72
  let c0_i32_65 : BitVec 32 := 0#32
  ![v73.toNat, 0]
def k0_off13 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_38 : BitVec 32 := 0#32
  let c1_i32_40 : BitVec 32 := 1#32
  let arg14 : BitVec 32 := Scf.iv c0_i32_38 c1_i32_40 k0_t4
  let c512_i32_68 : BitVec 32 := 512#32
  let v77 : BitVec 32 := Scalar.muli arg14 c512_i32_68
  let c0_i32_71 : BitVec 32 := 0#32
  ![v24.toNat, v77.toNat, 0]
def k0_cond2 (k0_t4 : Fin k0_t4_loop.trips) : BitVec 1 :=
  let c0_i32_38 : BitVec 32 := 0#32
  let c1_i32_40 : BitVec 32 := 1#32
  let arg14 : BitVec 32 := Scf.iv c0_i32_38 c1_i32_40 k0_t4
  let c2_i32_73 : BitVec 32 := 2#32
  let v86 : BitVec 1 := Scalar.cmpi .sge arg14 c2_i32_73
  let v87 : BitVec 32 := Scalar.extui v86
  let c0_i32_74 : BitVec 32 := 0#32
  let v88 : BitVec 1 := Scalar.cmpi .ne v87 c0_i32_74
  v88

def k0_off14 (k0_t4 : Fin k0_t4_loop.trips) : Fin 1 → Nat :=
  let c2_i32_91 : BitVec 32 := 2#32
  let c0_i32_38 : BitVec 32 := 0#32
  let c1_i32_40 : BitVec 32 := 1#32
  let arg14 : BitVec 32 := Scf.iv c0_i32_38 c1_i32_40 k0_t4
  let v107 : BitVec 32 := Scalar.addi c2_i32_91 arg14
  ![v107.toNat]
def k0_off15 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_38 : BitVec 32 := 0#32
  let c1_i32_40 : BitVec 32 := 1#32
  let arg14 : BitVec 32 := Scf.iv c0_i32_38 c1_i32_40 k0_t4
  let c512_i32_90 : BitVec 32 := 512#32
  let v106 : BitVec 32 := Scalar.muli arg14 c512_i32_90
  let c0_i32_95 : BitVec 32 := 0#32
  ![v24.toNat, v106.toNat, 0]
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_93 : BitVec 32 := 1#32
  let v109 : BitVec 32 := Scalar.muli v13 c1_i32_93
  let v110 : BitVec 32 := Scalar.addi c0_i32_94 v109
  v110.toNat
def k0_off16 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c2048_i32_85 : BitVec 32 := 2048#32
  let v100 : BitVec 32 := Scalar.muli v24 c2048_i32_85
  let c0_i32_38 : BitVec 32 := 0#32
  let c1_i32_40 : BitVec 32 := 1#32
  let arg14 : BitVec 32 := Scf.iv c0_i32_38 c1_i32_40 k0_t4
  let c512_i32_86 : BitVec 32 := 512#32
  let v101 : BitVec 32 := Scalar.muli arg14 c512_i32_86
  let v102 : BitVec 32 := Scalar.addi v100 v101
  let c0_i32_87 : BitVec 32 := 0#32
  ![v102.toNat, 0]
@[reducible] def k0_t5_loop : Scf.Loop 32 :=
  let c0_i32_42 : BitVec 32 := 0#32
  let c2_i32_43 : BitVec 32 := 2#32
  let v45 : BitVec 32 := Scalar.addi c0_i32_42 c2_i32_43
  let c1_i32_44 : BitVec 32 := 1#32
  ⟨c0_i32_42, v45, c1_i32_44⟩
def k0_off17 (k0_t5 : Fin k0_t5_loop.trips) : Fin 1 → Nat :=
  let c4_i32_51 : BitVec 32 := 4#32
  let c0_i32_42 : BitVec 32 := 0#32
  let c1_i32_44 : BitVec 32 := 1#32
  let arg14 : BitVec 32 := Scf.iv c0_i32_42 c1_i32_44 k0_t5
  let v50 : BitVec 32 := Scalar.addi c4_i32_51 arg14
  ![v50.toNat]
def k0_off18 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_42 : BitVec 32 := 0#32
  let c1_i32_44 : BitVec 32 := 1#32
  let arg14 : BitVec 32 := Scf.iv c0_i32_42 c1_i32_44 k0_t5
  let c512_i32_49 : BitVec 32 := 512#32
  let v48 : BitVec 32 := Scalar.muli arg14 c512_i32_49
  let c0_i32_54 : BitVec 32 := 0#32
  ![v35.toNat, v48.toNat, 0]
def k0_off19 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c2048_i32 : BitVec 32 := 2048#32
  let v70 : BitVec 32 := Scalar.muli v35 c2048_i32
  let c0_i32_42 : BitVec 32 := 0#32
  let c1_i32_44 : BitVec 32 := 1#32
  let arg14 : BitVec 32 := Scf.iv c0_i32_42 c1_i32_44 k0_t5
  let c512_i32_64 : BitVec 32 := 512#32
  let v71 : BitVec 32 := Scalar.muli arg14 c512_i32_64
  let v72 : BitVec 32 := Scalar.addi v70 v71
  let c0_i32_65 : BitVec 32 := 0#32
  ![v72.toNat, 0]
def k0_off20 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c2_i32_69 : BitVec 32 := 2#32
  let c0_i32_42 : BitVec 32 := 0#32
  let c1_i32_44 : BitVec 32 := 1#32
  let arg14 : BitVec 32 := Scf.iv c0_i32_42 c1_i32_44 k0_t5
  let v77 : BitVec 32 := Scalar.addi c2_i32_69 arg14
  let c512_i32_70 : BitVec 32 := 512#32
  let v78 : BitVec 32 := Scalar.muli v77 c512_i32_70
  let c0_i32_75 : BitVec 32 := 0#32
  ![v35.toNat, v78.toNat, 0]
def k0_off21 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c2048_i32_88 : BitVec 32 := 2048#32
  let v101 : BitVec 32 := Scalar.muli v35 c2048_i32_88
  let c2_i32_77 : BitVec 32 := 2#32
  let c0_i32_42 : BitVec 32 := 0#32
  let c1_i32_44 : BitVec 32 := 1#32
  let arg14 : BitVec 32 := Scf.iv c0_i32_42 c1_i32_44 k0_t5
  let v89 : BitVec 32 := Scalar.addi c2_i32_77 arg14
  let c512_i32_89 : BitVec 32 := 512#32
  let v102 : BitVec 32 := Scalar.muli v89 c512_i32_89
  let v103 : BitVec 32 := Scalar.addi v101 v102
  let c0_i32_90 : BitVec 32 := 0#32
  ![v103.toNat, 0]
@[reducible] def k0_t6_loop : Scf.Loop 32 :=
  let c0_i32_46 : BitVec 32 := 0#32
  let c6_i32 : BitVec 32 := 6#32
  let v46 : BitVec 32 := Scalar.addi c0_i32_46 c6_i32
  let c1_i32_47 : BitVec 32 := 1#32
  ⟨c0_i32_46, v46, c1_i32_47⟩
def k0_off22 (k0_t6 : Fin k0_t6_loop.trips) : Fin 1 → Nat :=
  let c0_i32_46 : BitVec 32 := 0#32
  let c1_i32_47 : BitVec 32 := 1#32
  let arg14 : BitVec 32 := Scf.iv c0_i32_46 c1_i32_47 k0_t6
  ![arg14.toNat]
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Views.lean ====
/-
# The ring all-gather product: devices, semaphores, blocks

The names the proof speaks in: a device's two neighbours and the device across, the twenty-five DMA semaphores by
number, the 512-row blocks of the gathered array, and the equations taking the kernel's printed offsets, device
numbers and semaphore slices to them.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.SL.BI.BigOpNat

@[expose] public section

noncomputable section

namespace Cert.KernelIdeal.Ring

open Cert.KernelIdeal Cert.KernelIdeal.Gen
open Idealize.ShloMosaic Idealize.ShloMosaic.TcCoe

/-! ## The ring of four devices -/

set_option backward.proofsInPublic true in
/-- The neighbour to the right: the next device around the ring. -/
def rt (c : Dev nD) : Dev nD := ⟨(c.val + 1) % 4, Nat.mod_lt _ (by decide)⟩
set_option backward.proofsInPublic true in
/-- The neighbour to the left: the device before around the ring. -/
def lf (c : Dev nD) : Dev nD := ⟨(c.val + 3) % 4, Nat.mod_lt _ (by decide)⟩
set_option backward.proofsInPublic true in
/-- The device across the ring. -/
def dg (c : Dev nD) : Dev nD := ⟨(c.val + 2) % 4, Nat.mod_lt _ (by decide)⟩

theorem lf_rt (c : Dev nD) : lf (rt c) = c := by revert c; decide
theorem rt_lf (c : Dev nD) : rt (lf c) = c := by revert c; decide
theorem lf_lf (c : Dev nD) : lf (lf c) = dg c := by revert c; decide
theorem rt_rt (c : Dev nD) : rt (rt c) = dg c := by revert c; decide

/-- One step around the ring, as a permutation of the devices. -/
def ring : Dev nD ≃ Dev nD := ⟨rt, lf, lf_rt, rt_lf⟩

theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = rt c := by revert c; decide +kernel
theorem dev4_eq (c : Dev nD) : (⟨k0_dev4 c, k0_dev4_lt c⟩ : Dev nD) = lf c := by revert c; decide +kernel
theorem dev5_val (c : Dev nD) : k0_dev5 c = (rt c).val := by revert c; decide +kernel
theorem dev6_val (c : Dev nD) : k0_dev6 c = (lf c).val := by revert c; decide +kernel

/-! ## The semaphores -/

/-- The DMA semaphore of number `n`: 0 the local copies', 1–6 and 7–12 the sends' to the right and to the left,
    13–18 and 19–24 the arrivals' from the left and from the right. -/
def dsem (n : ℕ) : DmaSem sig := ⟨n % 25, Nat.mod_lt _ (by decide)⟩

/-- The barrier semaphore. -/
abbrev barS : Sem sig := (SemArray.scalar (sig.barrier 0 rfl) : Sems sig S_).sem

theorem sem_copy : (cc0_scratch5 : DmaSems sig S_).sem = dsem 0 := by decide

theorem sem_inb (j : Fin 6) : ∀ a, (![j.val] : Fin 1 → ℕ) a + S1.size a ≤ S6.size a := by revert j; decide

/-- Element `j` of a six-long array of semaphores is semaphore `base + j`. -/
theorem sem_at : ∀ j : Fin 6,
    ((cc0_scratch6.slice (Rect.unit (s := S6) ![j.val] S1.size (sem_inb j))).squeeze S_ squeezes_S1_S_).sem = dsem (1 + j.val) ∧
    ((cc0_scratch7.slice (Rect.unit (s := S6) ![j.val] S1.size (sem_inb j))).squeeze S_ squeezes_S1_S_).sem = dsem (7 + j.val) ∧
    ((cc0_scratch8.slice (Rect.unit (s := S6) ![j.val] S1.size (sem_inb j))).squeeze S_ squeezes_S1_S_).sem = dsem (13 + j.val) ∧
    ((cc0_scratch9.slice (Rect.unit (s := S6) ![j.val] S1.size (sem_inb j))).squeeze S_ squeezes_S1_S_).sem = dsem (19 + j.val) := by
  decide +kernel

theorem sem_sendR (o : Fin 1 → ℕ) (h : ∀ a, o a + S1.size a ≤ S6.size a) (j : ℕ) (hj : j < 6) (ho : o = ![j]) :
    ((cc0_scratch6.slice (Rect.unit (s := S6) o S1.size h)).squeeze S_ squeezes_S1_S_).sem = dsem (1 + j) := by
  subst ho; exact (sem_at ⟨j, hj⟩).1
theorem sem_sendL (o : Fin 1 → ℕ) (h : ∀ a, o a + S1.size a ≤ S6.size a) (j : ℕ) (hj : j < 6) (ho : o = ![j]) :
    ((cc0_scratch7.slice (Rect.unit (s := S6) o S1.size h)).squeeze S_ squeezes_S1_S_).sem = dsem (7 + j) := by
  subst ho; exact (sem_at ⟨j, hj⟩).2.1
theorem sem_recvL (o : Fin 1 → ℕ) (h : ∀ a, o a + S1.size a ≤ S6.size a) (j : ℕ) (hj : j < 6) (ho : o = ![j]) :
    ((cc0_scratch8.slice (Rect.unit (s := S6) o S1.size h)).squeeze S_ squeezes_S1_S_).sem = dsem (13 + j) := by
  subst ho; exact (sem_at ⟨j, hj⟩).2.2.1
theorem sem_recvR (o : Fin 1 → ℕ) (h : ∀ a, o a + S1.size a ≤ S6.size a) (j : ℕ) (hj : j < 6) (ho : o = ![j]) :
    ((cc0_scratch9.slice (Rect.unit (s := S6) o S1.size h)).squeeze S_ squeezes_S1_S_).sem = dsem (19 + j) := by
  subst ho; exact (sem_at ⟨j, hj⟩).2.2.2

/-! ## The blocks -/

set_option backward.proofsInPublic true in
/-- A number's block row, modulo the four of a chunk. -/
def bk (n : ℕ) : Fin 4 := ⟨n % 4, Nat.mod_lt _ (by decide)⟩

theorem blk_inb (q b : Fin 4) : ∀ a, (![q.val, 512 * b.val, 0] : Fin 3 → ℕ) a + S1x512x8192.size a ≤ S4x2048x8192.size a := by
  revert q b; decide

/-- Block `b` of chunk `q` of the gathered array: 512 rows of the 2048 that device `q` brings. -/
abbrev blk (q b : Fin 4) : Memref sig .tc .hbm S512x8192 .bf16 :=
  ((Memref.whole main_v1_1).slice (Rect.unit (s := S4x2048x8192) ![q.val, 512 * b.val, 0] S1x512x8192.size (blk_inb q b))
    (fun _ => rfl)).squeeze S512x8192 squeezes_S1x512x8192_S512x8192

theorem blk_of (o : Fin 3 → ℕ) (h : ∀ a, o a + S1x512x8192.size a ≤ S4x2048x8192.size a) (q b : Fin 4)
    (ho : o = ![q.val, 512 * b.val, 0]) :
    ((Memref.whole main_v1_1).slice (Rect.unit (s := S4x2048x8192) o S1x512x8192.size h) (fun _ => rfl)).squeeze S512x8192
      squeezes_S1x512x8192_S512x8192 = blk q b := by
  subst ho; rfl

theorem xrow_inb (b : Fin 4) : ∀ a, (![512 * b.val, 0] : Fin 2 → ℕ) a + S512x8192.size a ≤ S2048x8192.size a := by
  revert b; decide

/-- Block `b` of a device's own rows of the left factor. -/
abbrev xrow (b : Fin 4) : Memref sig .tc .hbm S512x8192 .f32 :=
  (Memref.whole main_arg0).slice (Rect.unit (s := S2048x8192) ![512 * b.val, 0] S512x8192.size (xrow_inb b)) (fun _ => rfl)

theorem wrow_inb (j : Fin 4) : ∀ a, (![2048 * j.val, 0] : Fin 2 → ℕ) a + S2048x1024.size a ≤ S8192x1024.size a := by
  revert j; decide

/-- Part `j` of a device's columns of the right factor: 2048 of its 8192 rows. -/
abbrev wrow (j : Fin 4) : Memref sig .tc .hbm S2048x1024 .f32 :=
  (Memref.whole main_arg1).slice (Rect.unit (s := S8192x1024) ![2048 * j.val, 0] S2048x1024.size (wrow_inb j)) (fun _ => rfl)

theorem orow_inb (q b : Fin 4) : ∀ a, (![2048 * q.val + 512 * b.val, 0] : Fin 2 → ℕ) a + S512x1024.size a ≤ S8192x1024.size a := by
  revert q b; decide

/-- The rows of the result that block `b` of chunk `q` makes. -/
abbrev orow (q b : Fin 4) : Memref sig .tc .hbm S512x1024 .f32 :=
  (Memref.whole main_v1_0).slice (Rect.unit (s := S8192x1024) ![2048 * q.val + 512 * b.val, 0] S512x1024.size (orow_inb q b))
    (fun _ => rfl)

/-! ## The printed offsets at their blocks -/

theorem trips1 : k0_t1_loop.trips = 4 := by decide
theorem trips2 : k0_t2_loop.trips = 4 := by decide
theorem trips3 : k0_t3_loop.trips = 4 := by decide
theorem trips4 : k0_t4_loop.trips = 4 := by decide
theorem trips5 : k0_t5_loop.trips = 2 := by decide
theorem trips6 : k0_t6_loop.trips = 6 := by decide

theorem off1_at : ∀ t : Fin k0_t1_loop.trips, k0_off1 t = ![512 * (bk t.val).val, 0] := by decide +kernel
theorem off2_at : ∀ (c : Dev nD) (t : Fin k0_t1_loop.trips), k0_off2 c t = ![c.val, 512 * (bk t.val).val, 0] := by decide +kernel
theorem off4_at : ∀ t : Fin k0_t2_loop.trips, k0_off4 t = ![2048 * (bk t.val).val, 0] := by decide +kernel
theorem off5_at : ∀ t : Fin k0_t2_loop.trips, k0_off5 t = ![2048 * (bk t.val).val, 0] := by decide +kernel
theorem off6_at : ∀ (c : Dev nD) (t : Fin k0_t3_loop.trips), k0_off6 c t = ![c.val, 512 * (bk t.val).val, 0] := by decide +kernel
theorem off7_at : ∀ (c : Dev nD) (t : Fin k0_t3_loop.trips), k0_off7 c t = ![2048 * c.val + 512 * (bk t.val).val, 0] := by decide +kernel
theorem off9_at : ∀ (c : Dev nD) (t : Fin k0_t4_loop.trips), k0_off9 c t = ![(lf c).val, 512 * (bk t.val).val, 0] := by decide +kernel
theorem off11_at : ∀ (c : Dev nD) (t : Fin k0_t4_loop.trips), k0_off11 c t = ![(lf c).val, 512 * (bk t.val).val, 0] := by decide +kernel
theorem off12_at : ∀ (c : Dev nD) (t : Fin k0_t4_loop.trips), k0_off12 c t = ![2048 * (lf c).val + 512 * (bk t.val).val, 0] := by decide +kernel
theorem off13_at : ∀ (c : Dev nD) (t : Fin k0_t4_loop.trips), k0_off13 c t = ![(rt c).val, 512 * (bk t.val).val, 0] := by decide +kernel
theorem off15_at : ∀ (c : Dev nD) (t : Fin k0_t4_loop.trips), k0_off15 c t = ![(rt c).val, 512 * (bk t.val).val, 0] := by decide +kernel
theorem off16_at : ∀ (c : Dev nD) (t : Fin k0_t4_loop.trips), k0_off16 c t = ![2048 * (rt c).val + 512 * (bk t.val).val, 0] := by decide +kernel
theorem off18_at : ∀ (c : Dev nD) (t : Fin k0_t5_loop.trips), k0_off18 c t = ![(dg c).val, 512 * (bk t.val).val, 0] := by decide +kernel
theorem off19_at : ∀ (c : Dev nD) (t : Fin k0_t5_loop.trips), k0_off19 c t = ![2048 * (dg c).val + 512 * (bk t.val).val, 0] := by decide +kernel
theorem off20_at : ∀ (c : Dev nD) (t : Fin k0_t5_loop.trips), k0_off20 c t = ![(dg c).val, 512 * (bk (2 + t.val)).val, 0] := by decide +kernel
theorem off21_at : ∀ (c : Dev nD) (t : Fin k0_t5_loop.trips), k0_off21 c t = ![2048 * (dg c).val + 512 * (bk (2 + t.val)).val, 0] := by decide +kernel

theorem cond1_iff : ∀ t : Fin k0_t4_loop.trips, k0_cond1 t = 1#1 ↔ t.val < 2 := by decide +kernel
theorem cond2_iff : ∀ t : Fin k0_t4_loop.trips, k0_cond2 t = 1#1 ↔ ¬ t.val < 2 := by decide +kernel

/-! ## What travels each way -/

/-- The block device `c` sends right at its `k`-th send: its own chunk's four, then the first two of its left
    neighbour's chunk. -/
def slotR (c : Dev nD) (k : ℕ) : Fin 4 × Fin 4 := if k < 4 then (c, bk k) else (lf c, bk k)
/-- The block device `c` sends left at its `k`-th send: its own chunk's four, then the last two of its right
    neighbour's chunk. -/
def slotL (c : Dev nD) (k : ℕ) : Fin 4 × Fin 4 := if k < 4 then (c, bk k) else (rt c, bk (k + 2))

/-- A block as a pair. -/
abbrev blkP (p : Fin 4 × Fin 4) : Memref sig .tc .hbm S512x8192 .bf16 := blk p.1 p.2

/-- The credit a block's transfer brings. -/
@[irreducible] def N : ℕ := (blk 0 0).view.dmaCredit
theorem N_pos : 0 < N := by unfold N; exact View.dmaCredit_pos _ (by decide)
theorem N_blk (q b : Fin 4) : (blk q b).view.dmaCredit = N := by unfold N; rfl
theorem amount_blk (q b : Fin 4) (s : DmaSem sig) : (blk q b).view.amount (.dma s) = N := N_blk q b

end Cert.KernelIdeal.Ring
-- ==== Proof.Schedule.lean ====
/-
# The ring all-gather product: the schedule of the semaphores

The ghost state of the protocol, the values the kernel moves, which device pays which semaphore and with what, what each
device owes at launch, and the order of the semaphores that makes every wait safe.
-/
module

public import proofs.«01_k».proof.Proof.Views

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the launch's own, the rounds' (two names of duty, `Bool`), the local copies' -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans (embR : Emb (UB × Counters) (MT nD τ sig Unit (Elt F) ℕ UU ℕ))

instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev bcell (c : Dev nD) : GSem nD τ sig := ((c : Thread nD τ), .reg barS)
abbrev dcell (c : Dev nD) (n : ℕ) : GSem nD τ sig := ((c : Thread nD τ), .dma (dsem n))

theorem dsem_val {n : ℕ} (h : n < 25) : (dsem n).val = n := Nat.mod_eq_of_lt h

/-! ## The values -/

/-- Block `p.2` of device `p.1`'s rows of the left factor, rounded: what the gathered array holds in that block. -/
def Xb (p : Fin 4 × Fin 4) : Vec F S512x8192 .bf16 :=
  k0_pay4 ((xrow p.2).view.read (Elt F) (m ((p.1 : Thread nD τ).loc main_arg0)))

/-- Device `c`'s columns of the right factor, rounded. -/
def WB (c : Dev nD) : Vec F S8192x1024 .bf16 :=
  truncf .bf16 (m ((c : Thread nD τ).loc main_arg1) : Vec F S8192x1024 .f32) bitsLt_bf16_f32

/-- Which block an element of the result lies in, -/
def oblk (i : S8192x1024.Idx) : Fin 4 × Fin 4 := (bk ((i 0).val / 2048), bk ((i 0).val % 2048 / 512))
set_option backward.proofsInPublic true in
/-- and where in the block's product. -/
def oloc (i : S8192x1024.Idx) : S512x1024.Idx
  | 0 => (⟨(i 0).val % 512, Nat.mod_lt _ (by decide)⟩ : Fin 512)
  | 1 => (i 1 : Fin 1024)

/-- The result on device `c`: every block of the gathered array times the device's columns. -/
def OUT (c : Dev nD) : Vec F S8192x1024 .f32 := fun i => k0_pay2 (Xb m (oblk i)) (WB m c) (oloc i)

/-! ## The pieces of the gathered array -/

/-- Block `p` on device `d`, at some contents. -/
def xgAny (d : Dev nD) (p : Fin 4 × Fin 4) : sProp 𝕄 :=
  iprop(∃ f : Buf (Elt F) ((blkP p).view.loc (d : Thread nD τ)), (blkP p).view.loc (d : Thread nD τ) ↦[(blkP p).view.set]{fullShare} f)

/-- Block `p` on device `d` at share `π`, holding the rounded block. -/
def Blk (d : Dev nD) (p : Fin 4 × Fin 4) (π : PosShare TreeShare) : sProp 𝕄 :=
  iprop(∃ f : Buf (Elt F) ((blkP p).view.loc (d : Thread nD τ)),
    ((blkP p).view.loc (d : Thread nD τ) ↦[(blkP p).view.set]{π} f) ∗ ⌜(blkP p).view.read (Elt F) f = Xb m p⌝)

omit [FloatOps F] in
instance xgAny_storable (d : Dev nD) (p) : BI.Storable (upEmb : UEmb _ 𝕄) (xgAny (F := F) d p) := by unfold xgAny; infer_instance
instance Blk_storable (d : Dev nD) (p) (π : PosShare TreeShare) : BI.Storable (upEmb : UEmb _ 𝕄) (Blk m d p π) := by unfold Blk; infer_instance

theorem Blk_halves (d : Dev nD) (p : Fin 4 × Fin 4) (π : PosShare TreeShare) : Blk m d p π ⊢ iprop(Blk m d p π.left ∗ Blk m d p π.right) := by
  unfold Blk
  iintro ⟨%f, H, %h⟩
  ihave H := (pointsTo_share (PosShare.mem_left_op_right π)).1 $$ H
  icases H with ⟨H1, H2⟩
  isplitl [H1]
  · iexists f; isplitl [H1]; · iexact H1
    ipureintro; exact h
  · iexists f; isplitl [H2]; · iexact H2
    ipureintro; exact h

/-! ## The schedule -/

/-- What device `c`'s right neighbour hands it at the entry barrier: the six blocks of its gathered array `c` will send to. -/
def barPayR (c : Dev nD) : sProp 𝕄 := bigSep (Finset.Ico 0 6) fun k => xgAny (rt c) (slotR c k)
/-- What its left neighbour hands it. -/
def barPayL (c : Dev nD) : sProp 𝕄 := bigSep (Finset.Ico 0 6) fun k => xgAny (lf c) (slotL c k)

/-- What a duty of a semaphore of device `c` hands over: at the barrier the neighbours' blocks; at an arrival the block that
    arrived; at a departure nothing. -/
def payOf (c : Dev nD) : SemLoc sig → Bool → sProp 𝕄
  | .reg _, d => if d then barPayR c else barPayL c
  | .dma s, _ =>
    if 19 ≤ s.val then Blk m c (slotL (rt c) (s.val - 19)) fullShare
    else if 13 ≤ s.val then Blk m c (slotR (lf c) (s.val - 13)) fullShare
    else iprop(emp)

/-- Which duties a semaphore has in its one round. -/
def dutiesOf : SemLoc sig → Finset Bool
  | .reg s => if s = barS then Finset.univ else ∅
  | .dma s => if s.val = 0 then ∅ else {false}

/-- How much a duty of a semaphore pays. -/
def amountOf : SemLoc sig → ℕ
  | .reg _ => 1
  | .dma _ => N

/-- One round, round 0: two duties of one unit at the barrier, one of a block's credit at every departure and arrival. -/
def ringRd : Rounds.Schedule (GSem nD τ sig) Bool 𝕄 where
  duties g r := if r = 0 ∧ g.1.2 = .tc then dutiesOf g.2 else ∅
  unitless _ := False
  amount g _ _ := amountOf g.2
  payload g _ d := payOf m g.1.1 g.2 d
  amount_pos g _ _ _ := by
    rcases g with ⟨_, s | s⟩
    · exact Nat.one_pos
    · show 0 < N
      exact N_pos

instance payOf_storable (c : Dev nD) (s : SemLoc sig) (d : Bool) : BI.Storable (upEmb : UEmb _ 𝕄) (payOf m c s d) := by
  cases s with
  | reg s => unfold payOf barPayR barPayL; dsimp only; split <;> infer_instance
  | dma s => unfold payOf; dsimp only; (repeat' split) <;> infer_instance

instance ringRd_payload_storable (g : GSem nD τ sig) (r : ℕ) (d : Bool) :
    BI.Storable (upEmb : UEmb _ 𝕄) ((ringRd m).payload g r d) := payOf_storable m g.1.1 g.2 d

section Sched
variable (c : Dev nD)

theorem duties_bar : (ringRd m).duties (bcell c) 0 = Finset.univ := by
  dsimp only [ringRd]; rw [if_pos ⟨rfl, rfl⟩]; unfold dutiesOf; dsimp only; exact if_pos rfl
theorem duties_dma {n : ℕ} (h0 : 0 < n) (h : n < 25) : (ringRd m).duties (dcell c n) 0 = {false} := by
  dsimp only [ringRd]; rw [if_pos ⟨rfl, rfl⟩]; exact if_neg (by rw [dsem_val h]; omega)
theorem duties_later (g : GSem nD τ sig) : ∀ r, 1 ≤ r → (ringRd m).duties g r = ∅ :=
  fun r hr => by dsimp only [ringRd]; rw [if_neg fun h => by omega]

theorem amount_bar (d : Bool) : (ringRd m).amount (bcell c) 0 d = 1 := rfl
theorem amount_dma (n : ℕ) (d : Bool) : (ringRd m).amount (dcell c n) 0 d = N := rfl

theorem expect_bar : (ringRd m).expect (bcell c) 0 = 2 := by
  unfold Schedule.expect Schedule.amountOf
  rw [duties_bar, Finset.sum_congr rfl fun d _ => amount_bar m c d, Finset.sum_const, Finset.card_univ, Fintype.card_bool, smul_eq_mul]
theorem expect_dma {n : ℕ} (h0 : 0 < n) (h : n < 25) : (ringRd m).expect (dcell c n) 0 = N := by
  unfold Schedule.expect Schedule.amountOf; rw [duties_dma m c h0 h, Finset.sum_singleton, amount_dma]

theorem payload_bar_true : (ringRd m).payload (bcell c) 0 true = barPayR c := by
  show (if true = true then barPayR c else barPayL c) = _
  exact if_pos rfl
theorem payload_bar_false : (ringRd m).payload (bcell c) 0 false = barPayL c := by
  show (if false = true then barPayR c else barPayL c) = _
  exact if_neg Bool.false_ne_true
theorem payload_send {n : ℕ} (h : n < 13) (d : Bool) : (ringRd m).payload (dcell c n) 0 d = iprop(emp) := by
  show (if 19 ≤ (dsem n).val then _ else if 13 ≤ (dsem n).val then _ else _) = _
  rw [dsem_val (by omega), if_neg (by omega), if_neg (by omega)]
theorem payload_recvL {k : ℕ} (h : k < 6) (d : Bool) :
    (ringRd m).payload (dcell c (13 + k)) 0 d = Blk m c (slotR (lf c) k) fullShare := by
  show (if 19 ≤ (dsem (13 + k)).val then _ else if 13 ≤ (dsem (13 + k)).val then _ else _) = _
  rw [dsem_val (by omega), if_neg (by omega), if_pos (by omega), Nat.add_sub_cancel_left]
theorem payload_recvR {k : ℕ} (h : k < 6) (d : Bool) :
    (ringRd m).payload (dcell c (19 + k)) 0 d = Blk m c (slotL (rt c) k) fullShare := by
  show (if 19 ≤ (dsem (19 + k)).val then _ else if 13 ≤ (dsem (19 + k)).val then _ else _) = _
  rw [dsem_val (by omega), if_pos (by omega), Nat.add_sub_cancel_left]

theorem rest_bar : bigSep ((ringRd m).duties (bcell c) 0 \ ∅) (fun d => (ringRd m).payload (bcell c) 0 d) = iprop(barPayL c ∗ barPayR c) := by
  rw [Finset.sdiff_empty, duties_bar, bigSep_univ_eq_bigSepL [false, true] (by decide) (by decide), bigSepL_cons_cons, bigSepL_singleton,
    payload_bar_false, payload_bar_true]
  rfl
theorem rest_dma {n : ℕ} (h0 : 0 < n) (h : n < 25) :
    bigSep ((ringRd m).duties (dcell c n) 0 \ ∅) (fun d => (ringRd m).payload (dcell c n) 0 d) = (ringRd m).payload (dcell c n) 0 false := by
  rw [Finset.sdiff_empty, duties_dma m c h0 h, bigSep_singleton]

end Sched

/-! ## What a device owes, and the levels -/

/-- What device `c` still owes its right neighbour from its `k`-th send on. -/
def owR (c : Dev nD) (k : ℕ) : CellTallies nD τ sig Unit := ∑ j ∈ Finset.Ico k 6, tallyAt (dcell (rt c) (13 + j)) () N
/-- What it still owes its left neighbour. -/
def owL (c : Dev nD) (k : ℕ) : CellTallies nD τ sig Unit := ∑ j ∈ Finset.Ico k 6, tallyAt (dcell (lf c) (19 + j)) () N

theorem sum_Ico_bot {A : Type} [AddCommMonoid A] {a b : ℕ} (h : a < b) (f : ℕ → A) :
    ∑ j ∈ Finset.Ico a b, f j = ∑ j ∈ Finset.Ico (a + 1) b, f j + f a := by
  rw [show Finset.Ico a b = insert a (Finset.Ico (a + 1) b) by ext x; simp only [Finset.mem_Ico, Finset.mem_insert]; omega,
    Finset.sum_insert (by rw [Finset.mem_Ico]; omega), add_comm]

theorem owR_succ (c : Dev nD) {k : ℕ} (h : k < 6) : owR c k = owR c (k + 1) + tallyAt (dcell (rt c) (13 + k)) () N := by
  unfold owR; exact sum_Ico_bot h _
theorem owL_succ (c : Dev nD) {k : ℕ} (h : k < 6) : owL c k = owL c (k + 1) + tallyAt (dcell (lf c) (19 + k)) () N := by
  unfold owL; exact sum_Ico_bot h _
theorem owR_end (c : Dev nD) : owR c 6 = 0 := by unfold owR; rw [Finset.Ico_self, Finset.sum_empty]
theorem owL_end (c : Dev nD) : owL c 6 = 0 := by unfold owL; rw [Finset.Ico_self, Finset.sum_empty]

/-- What device `c` owes at launch: a block's credit for each of its twelve sends, a unit at each neighbour's barrier. -/
def O₀ (c : Dev nD) : CellTallies nD τ sig Unit := (owR c 0 + owL c 0) + tallyAt (bcell (rt c)) () 1 + tallyAt (bcell (lf c)) () 1

def L (g : GSem nD τ sig) : Finset Unit := if g.1.2 = .tc then {()} else ∅
/-- The level of a semaphore: the barrier 1, the first four arrivals of a side 2, the last two 3, everything else 0. -/
def lvOf : SemLoc sig → ℕ
  | .reg _ => 1
  | .dma s => if s.val < 13 then 0 else if s.val < 17 then 2 else if s.val < 19 then 3 else if s.val < 23 then 2 else 3
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {a b n0 : ℕ} {d : Dev nD} {g : GSem nD τ sig} {u : Unit}
    (h : 0 < (∑ j ∈ Finset.Ico a b, (tallyAt (dcell d (n0 + j)) () N : CellTallies nD τ sig Unit)) g u) : ∃ j, a ≤ j ∧ j < b ∧ g = dcell d (n0 + j) := by
  rw [Finset.sum_apply, Finsupp.finsetSum_apply] at h
  obtain ⟨j, hj, hp⟩ := Finset.exists_ne_zero_of_sum_ne_zero (Nat.pos_iff_ne_zero.mp h)
  rw [tallyAt_apply] at hp
  refine ⟨j, (Finset.mem_Ico.mp hj).1, (Finset.mem_Ico.mp hj).2, ?_⟩
  by_contra hn
  exact hp (if_neg fun h' => hn h'.1)

theorem ow_pos {c : Dev nD} {a b : ℕ} {g : GSem nD τ sig} {u : Unit} (h : 0 < (owR c a + owL c b) g u) :
    (∃ j, a ≤ j ∧ j < 6 ∧ g = dcell (rt c) (13 + j)) ∨ ∃ j, b ≤ j ∧ j < 6 ∧ g = dcell (lf c) (19 + j) := by
  rw [Pi.add_apply, Finsupp.add_apply] at h
  rcases Nat.eq_zero_or_pos (owR c a g u) with h0 | h0
  · rw [h0, Nat.zero_add] at h; exact Or.inr (tally_sum_pos h)
  · exact Or.inl (tally_sum_pos h0)

theorem lv_recvL (d : Dev nD) {k : ℕ} (h : k < 6) : lv (dcell d (13 + k)) () = if k < 4 then 2 else 3 := by
  unfold lv lvOf; dsimp only
  rw [dsem_val (by omega), if_neg (by omega)]
  by_cases h1 : k < 4
  · rw [if_pos (by omega), if_pos h1]
  · rw [if_neg (by omega), if_pos (by omega), if_neg h1]
theorem lv_recvR (d : Dev nD) {k : ℕ} (h : k < 6) : lv (dcell d (19 + k)) () = if k < 4 then 2 else 3 := by
  unfold lv lvOf; dsimp only
  rw [dsem_val (by omega), if_neg (by omega), if_neg (by omega), if_neg (by omega)]
  by_cases h1 : k < 4
  · rw [if_pos (by omega), if_pos h1]
  · rw [if_neg (by omega), if_neg h1]

/-- A device that still owes its sends from the `a`-th right and the `b`-th left may wait at a semaphore whose level is below
    every one of them. -/
theorem mayWait_ow (c : Dev nD) (sm : SemLoc sig) (a b : ℕ)
    (hR : ∀ j, a ≤ j → j < 6 → lvOf sm < if j < 4 then 2 else 3) (hL : ∀ j, b ≤ j → j < 6 → lvOf sm < if j < 4 then 2 else 3) :
    (levAts L lv : sProp 𝕄) ⊢ MayWait (c : Thread nD τ) sm () (owR c a + owL c b) :=
  MayOwe.of_cut (L := L) (lev := lv) (lvOf sm) (fun p hp => by rw [Finset.mem_singleton.mp hp, L_tc]; exact Finset.mem_singleton_self _)
    (fun g u hg => by rcases ow_pos hg with ⟨j, -, -, rfl⟩ | ⟨j, -, -, rfl⟩ <;> exact Finset.mem_singleton_self _)
    (fun p hp => by rw [Finset.mem_singleton.mp hp]; exact le_refl _)
    (fun g u hg => by
      rcases ow_pos hg with ⟨j, h1, h2, rfl⟩ | ⟨j, h1, h2, rfl⟩
      · rw [lv_recvL _ h2]; exact hR j h1 h2
      · rw [lv_recvR _ h2]; exact hL j h1 h2)

end Cert.KernelIdeal.Ring
-- ==== Proof.Steps.lean ====
/-
# The ring all-gather product: its steps

One rule per kind of step the kernel takes: a copy within a device, a block sent to a neighbour, a wait at one of the
protocol's semaphores, and the product of one block with the device's columns.
-/
module

public import proofs.«01_k».proof.Proof.Schedule

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- A device's semaphores of the protocol, by number: its barrier, then its departures and arrivals. -/
abbrev csem : Fin 25 → SemLoc sig
  | ⟨0, _⟩ => .reg barS
  | ⟨n + 1, _⟩ => .dma (dsem (n + 1))
abbrev kcell (ck : Dev nD × Fin 25) : GSem nD τ sig := ((ck.1 : Thread nD τ), csem ck.2)

/-- Every semaphore of the protocol follows the schedule, and has reached its one round. -/
def Recs (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

instance Recs_persistent (K : Dev nD × Fin 25 → ℕ) : BI.Persistent (Recs m K) := by unfold Recs; infer_instance

theorem Recs_at (K : Dev nD × Fin 25 → ℕ) (ck : Dev nD × Fin 25) :
    Recs m K ⊢ iprop(cellInv ER (ringRd m) (K ck) (kcell ck) ∗ reached ER (kcell ck) 0) := by
  unfold Recs; exact BIClass.sep_mono (bigSep_elim (Finset.mem_univ ck)) (bigSep_elim (Finset.mem_univ ck))

theorem Recs_bar (K : Dev nD × Fin 25 → ℕ) (c : Dev nD) :
    Recs m K ⊢ iprop(cellInv ER (ringRd m) (K (c, 0)) (bcell c) ∗ reached ER (bcell c) 0) := Recs_at m K (c, 0)

theorem Recs_dma (K : Dev nD × Fin 25 → ℕ) (c : Dev nD) {n : ℕ} (h0 : 0 < n) (h : n < 25) :
    Recs m K ⊢ iprop(cellInv ER (ringRd m) (K (c, ⟨n, h⟩)) (dcell c n) ∗ reached ER (dcell c n) 0) := by
  obtain ⟨n, rfl⟩ : ∃ n', n = n' + 1 := ⟨n - 1, by omega⟩
  exact Recs_at m K (c, ⟨n + 1, h⟩)

/-- The protocol's records and the order of the semaphores, what every step draws on. -/
def Env (K : Dev nD × Fin 25 → ℕ) : sProp 𝕄 := iprop(Recs m K ∗ levAts L lv)
instance Env_persistent (K : Dev nD × Fin 25 → ℕ) : BI.Persistent (Env m K) := by unfold Env; infer_instance

/-- What device `c` owes, its sends from the `a`-th right and the `b`-th left still to come. -/
def Ow (c : Dev nD) (a b : ℕ) : sProp 𝕄 := iprop(∃ W, owes (c : Thread nD τ) (owR c a + owL c b) W)

/-! ## A wait at a semaphore of the protocol -/

theorem credit_any (v : Memref sig .tc .hbm S512x8192 .bf16) : v.view.dmaCredit = N := by unfold N; rfl

/-- Waiting at semaphore `n` of device `c`: the wait takes the credit, gives the payload, and the semaphore is closed. -/
theorem wp_await (K : Dev nD × Fin 25 → ℕ) (c : Dev nD) (n : ℕ) (h0 : 0 < n) (h : n < 25) (a b : ℕ)
    (hR : ∀ j, a ≤ j → j < 6 → lvOf (.dma (dsem n)) < if j < 4 then 2 else 3)
    (hL : ∀ j, b ≤ j → j < 6 → lvOf (.dma (dsem n)) < if j < 4 then 2 else 3)
    {s : DmaSem sig} (hs : s = dsem n) {src dst : Memref sig .tc .hbm S512x8192 .bf16}
    {hsrc : src.view.WordExact} {hdst : dst.view.WordExact}
    {α : Type} {Q : α → sProp 𝕄} {k : PUnit → Prog (TpuEff nD τ sig (Elt F) Λ₀ .tc) α} :
    iprop(Env m K ∗ cred (tallyAt (dcell c n) () N) ∗ atPos ER (dcell c n) 0 ∅ 0 ∗ Ow c a b)
      ⊢ iprop((((ringRd m).payload (dcell c n) 0 false ∗ semVal (dcell c n) 0 ∗ Ow c a b) -∗ WP c (k ⟨⟩) Q)
          -∗ WP c (.op (.waitDma2 s src dst hsrc hdst) k) Q) := by
  subst hs
  unfold Env Ow
  iintro ⟨⟨#HR, #Hlev⟩, Hc, Hat, ⟨%W, HO⟩⟩ Hk
  ihave HI := (Recs_dma m K c h0 h) $$ HR
  icases HI with ⟨#HI, -⟩
  iapply (Rounds.wp_wait_rest_token 𝒱₀ ER (ringRd m) (c : Thread nD τ) none (κ := K (c, ⟨n, h⟩))
      (wpE_waitDma2_eq 𝒱₀ (c : Thread nD τ) none Set.univ) (Set.mem_univ _) () (O := owR c a + owL c b) (W := W) (R := 0) (m := 0) (T := ∅)
      (by rw [Nat.zero_add, credit_any, expect_dma m c h0 h])) $$ [Hc HO Hat]
  · isplitr; · iexact HI
    isplitl [Hc]; · rw [credit_any]; iexact Hc
    isplitl [HO]; · iexact HO
    isplitr; · iapply (mayWait_ow c (.dma (dsem n)) a b hR hL); iexact Hlev
    iexact Hat
  iintro ⟨HO, Hat, -, Hpay⟩
  imod (Rounds.cell_close ER (ringRd m) (Set.mem_univ (K (c, ⟨n, h⟩))) (fun h => h) (R := 0 + 1) (duties_later m (dcell c n))) $$ [Hat] with Hz
  · isplitr; · iexact HI
    iexact Hat
  ihave Hpay := (Entails.of_eq (rest_dma m c h0 h)) $$ Hpay
  iapply Hk
  isplitl [Hpay]; · iexact Hpay
  isplitl [Hz]; · iexact Hz
  iexists _; iexact HO

/-! ## A block sent -/

/-- What device `c` needs to send block `p` to device `d` with departure `nS` and arrival `nV`: the block on `d`, the two duties,
    and its own place at the departure. -/
def SendRes (c d : Dev nD) (p : Fin 4 × Fin 4) (nS nV : ℕ) : sProp 𝕄 :=
  iprop(xgAny d p ∗ dutyTok ER (dcell c nS) 0 false ∗ dutyTok ER (dcell d nV) 0 false ∗ atPos ER (dcell c nS) 0 ∅ 0)
/-- What it has after: the departure's credit and its place. -/
def Sent (c : Dev nD) (nS : ℕ) : sProp 𝕄 := iprop(cred (tallyAt (dcell c nS) () N) ∗ atPos ER (dcell c nS) 0 ∅ 0)

theorem wp_send (K : Dev nD × Fin 25 → ℕ) (c d n : Dev nD) (hn : n = d) (p : Fin 4 × Fin 4) (nS nV : ℕ)
    (hS0 : 0 < nS) (hS : nS < 13) (hV0 : 0 < nV) (hV : nV < 25)
    (hpay : (ringRd m).payload (dcell d nV) 0 false = Blk m d p fullShare)
    {O : CellTallies nD τ sig Unit} (O' : CellTallies nD τ sig Unit) (hO : O = O' + tallyAt (dcell d nV) () N)
    {sS sV : DmaSem sig} (hsS : sS = dsem nS) (hsV : sV = dsem nV)
    {src : Memref sig .tc .hbm S512x8192 .bf16} {dst : Memref sig (Dev.tc n : Thread nD τ).2.kind .hbm S512x8192 .bf16}
    (hsrc : src = blkP p) (hdst : dst = blkP p) {π : PosShare TreeShare}
    {hsc : dst.view.ref.isScScratch = false} {hwsrc : src.view.WordExact} {hwdst : dst.view.WordExact}
    {hsem : DmaTarget.Typed .hbm (.dma sV) (.remote (Dev.tc n : Thread nD τ) dst (.dma sS) hsc)}
    {α : Type} {Q : α → sProp 𝕄} {k : PUnit → Prog (TpuEff nD τ sig (Elt F) Λ₀ .tc) α} :
    iprop(Env m K ∗ SendRes c d p nS nV ∗ Blk m c p π ∗ ∃ W, owes (c : Thread nD τ) O W)
      ⊢ iprop(((Sent c nS ∗ ∃ W, owes (c : Thread nD τ) O' W) -∗ WP c (k ⟨⟩) Q)
          -∗ WP c (.op (.enqueueDma src (.remote (Dev.tc n : Thread nD τ) dst (.dma sS) hsc) (.dma sV) hwsrc hwdst hsem) k) Q) := by
  subst hn hsS hsV hsrc hdst
  unfold Env SendRes Sent Blk xgAny
  iintro ⟨⟨#HR, #Hlev⟩, ⟨⟨%fd, Hd⟩, HtS, HtV, Hat⟩, ⟨%fs, Hs, %hfs⟩, ⟨%W, HO⟩⟩ Hk
  ihave HI := (Recs_dma m K c hS0 (by omega : nS < 25)) $$ HR
  icases HI with ⟨#HIs, #Hrs⟩
  ihave HI := (Recs_dma m K n hV0 hV) $$ HR
  icases HI with ⟨#HIv, #Hrv⟩
  iapply (Rounds.wp_send_pointsTo 𝒱₀ ER (ringRd m) (c : Thread nD τ) none (κ₁ := K (c, ⟨nS, by omega⟩)) (κ₂ := K (n, ⟨nV, hV⟩))
    (r₁ := 0) (r₂ := 0) (d₁ := false) (d₂ := false) (fd := fd) (fs := fs)
    (by rw [duties_dma m c hS0 (by omega)]; exact Finset.mem_singleton_self _) (by rw [duties_dma m n hV0 hV]; exact Finset.mem_singleton_self _)
    () () N (amount_blk _ _ _) (amount_dma m c nS false) (amount_dma m n nV false) O' hO (W := W)
    (by rw [payload_send m c hS]; exact Laws.affine)
    (by
      rw [hpay]; unfold Blk
      iintro H
      iexists _; isplitl [H]; · iexact H
      ipureintro; rw [hfs]; exact View.read_write_univ _ _)) $$ [Hs Hd HO HtS HtV]
  · isplitr; · iexact HIs
    isplitr; · iexact HIv
    isplitl [Hs]; · iexact Hs
    isplitl [Hd]; · iexact Hd
    isplitl [HO]; · iexact HO
    isplitl [HtS]; · iexact HtS
    isplitr; · iexact Hrs
    isplitl [HtV]; · iexact HtV
    iexact Hrv
  iintro ⟨Hc, HO⟩
  iapply Hk
  isplitr [HO]
  · isplitl [Hc] <;> iassumption
  iexists _; iexact HO

/-! ## A copy within the device -/

theorem lv_copy : lvOf (.dma (dsem 0)) = 0 := by decide

theorem wp_copy (K : Dev nD × Fin 25 → ℕ) (c : Dev nD) (a b : ℕ) {sp sp' : Space} {s : Shape} {e : EltTy} (hpos : 0 < s.numel)
    {src : Memref sig .tc sp s e} {dst : Memref sig .tc sp' s e} {sm : DmaSem sig} (hsm : sm = dsem 0)
    {hsrc hsrc' : src.view.WordExact} {hdst hdst' : dst.view.WordExact} {hsem : DmaTarget.Typed (nD := nD) (τ := τ) (p := (c : Thread nD τ).2) sp (.dma sm) (.here dst)}
    {Ss : Finset (Idx (src.view.loc (c : Thread nD τ)))} {Sd : Finset (Idx (dst.view.loc (c : Thread nD τ)))}
    (hSs : src.view.set ⊆ Ss) (hSd : dst.view.set ⊆ Sd)
    {q : PosShare TreeShare} {fs : Buf (Elt F) (src.view.loc (c : Thread nD τ))} {fd : Buf (Elt F) (dst.view.loc (c : Thread nD τ))}
    {α : Type} {Q : α → sProp 𝕄} {k : PUnit → Prog (TpuEff nD τ sig (Elt F) Λ₀ .tc) α} :
    iprop(Env m K ∗ (src.view.loc (c : Thread nD τ) ↦[Ss]{q} fs) ∗ (dst.view.loc (c : Thread nD τ) ↦[Sd]{fullShare} fd)
        ∗ semVal (dcell c 0) 0 ∗ Ow c a b)
      ⊢ iprop((((src.view.loc (c : Thread nD τ) ↦[Ss]{q} fs)
              ∗ (dst.view.loc (c : Thread nD τ) ↦[Sd]{fullShare} (dst.view.write (Elt F) fd (src.view.read (Elt F) fs) Finset.univ))
              ∗ semVal (dcell c 0) 0 ∗ Ow c a b) -∗ WP c (k ⟨⟩) Q)
          -∗ WP c (.op (.enqueueDma src (.here dst) (.dma sm) hsrc hdst hsem) fun _ => .op (.waitDma2 sm src dst hsrc' hdst') k) Q) := by
  subst hsm
  unfold Env Ow
  iintro ⟨⟨#HR, #Hlev⟩, Hs, Hd, Hz, ⟨%W, HO⟩⟩ Hk
  ihave Hs := (pointsTo_split_subset hSs).1 $$ Hs
  icases Hs with ⟨Hs, Hs'⟩
  iapply (Transfers.wp_dmaLocal countersEmb 𝒱₀ (c : Thread nD τ) none () (dst.view.amount (.dma (dsem 0))) rfl
    (View.dmaCredit_pos _ hpos) hSd) $$ [Hs Hd Hz]
  · isplitl [Hs]; · iexact Hs
    isplitl [Hd]; · iexact Hd
    iexact Hz
  iintro Hf
  iapply (Transfers.wp_waitLocalO countersEmb 𝒱₀ (c : Thread nD τ) none () rfl (O := owR c a + owL c b) (W := W)) $$ [Hf HO]
  · isplitl [Hf]; · iexact Hf
    isplitl [HO]; · iexact HO
    iapply (mayWait_ow c (.dma (dsem 0)) a b (fun j _ _ => by rw [lv_copy]; split <;> decide) (fun j _ _ => by rw [lv_copy]; split <;> decide))
    iexact Hlev
  iintro ⟨⟨Hd, Hs⟩, Hz, HO⟩
  iapply Hk
  isplitl [Hs Hs']
  · iapply (pointsTo_split_subset hSs).2
    isplitl [Hs]; · iexact Hs
    iexact Hs'
  isplitl [Hd]; · iexact Hd
  isplitl [Hz]; · iexact Hz
  iexists _; iexact HO

end Cert.KernelIdeal.Ring
-- ==== Proof.Gemm.lean ====
/-
# The ring all-gather product: one block's product

What a write of a block's product does to the result, and the step that makes one: the block is brought in, multiplied by the
device's columns, and stored in its rows of the result.
-/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where a write lands -/

theorem oblk_iff (i : S8192x1024.Idx) (q b : Fin 4) :
    oblk i = (q, b) ↔ 2048 * q.val + 512 * b.val ≤ (i 0).val ∧ (i 0).val < 2048 * q.val + 512 * b.val + 512 := by
  have h0 : (i 0).val < 8192 := (i 0).isLt
  have hq := q.isLt
  have hb := b.isLt
  unfold oblk bk
  simp only [Prod.mk.injEq, Fin.ext_iff]
  omega

theorem orow_emb (q b : Fin 4) (i : S8192x1024.Idx) (h : oblk i = (q, b)) : (orow q b).view.emb (oloc i) = i := by
  have h' := (oblk_iff i q b).1 h
  funext a
  apply Fin.ext
  match a with
  | ⟨0, _⟩ =>
    show 2048 * q.val + 512 * b.val + 1 * ((i 0).val % 512) = (i 0).val
    omega
  | ⟨1, _⟩ =>
    show 0 + 1 * (i 1).val = (i 1).val
    omega

theorem orow_not_mem (q b : Fin 4) (i : S8192x1024.Idx) (h : oblk i ≠ (q, b)) : i ∉ (orow q b).view.setOn Finset.univ := by
  intro hm
  apply h
  obtain ⟨x, -, rfl⟩ := Finset.mem_map.1 hm
  have hx : (x 0).val < 512 := (x 0).isLt
  rw [oblk_iff]
  show 2048 * q.val + 512 * b.val ≤ 2048 * q.val + 512 * b.val + 1 * (x 0).val ∧ 2048 * q.val + 512 * b.val + 1 * (x 0).val < _
  omega

/-- A write to the rows of block `(q, b)` gives those rows the written values and keeps the others. -/
theorem orow_write (q b : Fin 4) (f : Vec F S8192x1024 .f32) (v : Vec F S512x1024 .f32) (i : S8192x1024.Idx) :
    (orow q b).view.write (Elt F) f v Finset.univ i = if oblk i = (q, b) then v (oloc i) else f i := by
  by_cases h : oblk i = (q, b)
  · rw [if_pos h]
    conv_lhs => rw [← orow_emb q b i h]
    rw [View.write_emb_of_mem _ _ (Finset.mem_univ _)]
    rfl
  · rw [if_neg h]
    exact View.write_of_not_mem _ _ _ (orow_not_mem q b i h)

/-! ## The product step -/

/-- The result on device `c`, right on the blocks of `D`. -/
def OutP (c : Dev nD) (D : Fin 4 × Fin 4 → Prop) : sProp 𝕄 :=
  iprop(∃ f : Buf (Elt F) ((c : Thread nD τ).loc main_v1_0), ((c : Thread nD τ).loc main_v1_0 ↦[Finset.univ]{fullShare} f)
    ∗ ⌜∀ i, D (oblk i) → f i = OUT m c i⌝)

/-- Some contents in the tile of the left factor, -/
def AnyX (c : Dev nD) : sProp 𝕄 :=
  iprop(∃ f : Buf (Elt F) ((c : Thread nD τ).loc cc0_scratch1), (c : Thread nD τ).loc cc0_scratch1 ↦[Finset.univ]{fullShare} f)
/-- and in the tile of the result. -/
def AnyO (c : Dev nD) : sProp 𝕄 :=
  iprop(∃ f : Buf (Elt F) ((c : Thread nD τ).loc cc0_scratch4), (c : Thread nD τ).loc cc0_scratch4 ↦[Finset.univ]{fullShare} f)

/-- What device `c` computes with: the two tiles, its rounded columns, the result right on `D`, the copies' semaphore, and
    what it owes. -/
def Comp (c : Dev nD) (D : Fin 4 × Fin 4 → Prop) (a b : ℕ) : sProp 𝕄 :=
  iprop(AnyX c ∗ ((c : Thread nD τ).loc cc0_scratch2 ↦[Finset.univ]{fullShare} (WB m c)) ∗ AnyO c ∗ OutP m c D
    ∗ semVal (dcell c 0) 0 ∗ Ow c a b)

theorem Comp_congr (c : Dev nD) (D D' : Fin 4 × Fin 4 → Prop) (h : ∀ p, D' p → D p) (a b : ℕ) : Comp m c D a b ⊢ Comp m c D' a b := by
  unfold Comp OutP
  iintro ⟨HX, HW, HO, ⟨%f, Hf, %hf⟩, Hz, HOw⟩
  isplitl [HX]; · iexact HX
  isplitl [HW]; · iexact HW
  isplitl [HO]; · iexact HO
  isplitl [Hf]
  · iexists f; isplitl [Hf]; · iexact Hf
    ipureintro; exact fun i hi => hf i (h _ hi)
  isplitl [Hz]; · iexact Hz
  iexact HOw

theorem zz : (![0, 0] : Fin 2 → ℕ) = fun _ => 0 := by decide

/-! Reading and writing a whole tile. -/

theorem rd_xf (f : Vec F S512x8192 .f32) : (Memref.whole cc0_scratch0).view.readAt (Elt F)
    (Rect.unit (s := S512x8192) ![0, 0] S512x8192.size inb_S512x8192_S512x8192_0_0).toLoadRect f = f :=
  Memref.readAt_unit_zero (Elt F) cc0_scratch0 zz _ f
theorem rd_x (f : Vec F S512x8192 .bf16) : (Memref.whole cc0_scratch1).view.readAt (Elt F)
    (Rect.unit (s := S512x8192) ![0, 0] S512x8192.size inb_S512x8192_S512x8192_0_0).toLoadRect f = f :=
  Memref.readAt_unit_zero (Elt F) cc0_scratch1 zz _ f
theorem rd_w (f : Vec F S8192x1024 .bf16) : (Memref.whole cc0_scratch2).view.readAt (Elt F)
    (Rect.unit (s := S8192x1024) ![0, 0] S8192x1024.size inb_S8192x1024_S8192x1024_0_0).toLoadRect f = f :=
  Memref.readAt_unit_zero (Elt F) cc0_scratch2 zz _ f
theorem rd_wf (f : Vec F S2048x1024 .f32) : (Memref.whole cc0_scratch3).view.readAt (Elt F)
    (Rect.unit (s := S2048x1024) ![0, 0] S2048x1024.size inb_S2048x1024_S2048x1024_0_0).toLoadRect f = f :=
  Memref.readAt_unit_zero (Elt F) cc0_scratch3 zz _ f
theorem wr_x (f w : Vec F S512x8192 .bf16) : ((Memref.whole cc0_scratch1).access
    (Rect.unit (s := S512x8192) ![0, 0] S512x8192.size inb_S512x8192_S512x8192_0_0)).write (Elt F) f w Finset.univ = w :=
  Memref.write_access_unit_zero_univ (Elt F) cc0_scratch1 zz _ f w
theorem wr_xall (f w : Vec F S512x8192 .bf16) : (Memref.whole cc0_scratch1).view.write (Elt F) f w Finset.univ = w :=
  View.write_whole_univ (Val := Elt F) cc0_scratch1 f w
theorem wr_xfall (f w : Vec F S512x8192 .f32) : (Memref.whole cc0_scratch0).view.write (Elt F) f w Finset.univ = w :=
  View.write_whole_univ (Val := Elt F) cc0_scratch0 f w
theorem wr_wfall (f w : Vec F S2048x1024 .f32) : (Memref.whole cc0_scratch3).view.write (Elt F) f w Finset.univ = w :=
  View.write_whole_univ (Val := Elt F) cc0_scratch3 f w
theorem wr_o (f w : Vec F S512x1024 .f32) : ((Memref.whole cc0_scratch4).access
    (Rect.unit (s := S512x1024) ![0, 0] S512x1024.size inb_S512x1024_S512x1024_0_0)).write (Elt F) f w Finset.univ = w :=
  Memref.write_access_unit_zero_univ (Elt F) cc0_scratch4 zz _ f w

/-- The product of block `(q, r)`: the block copied in, multiplied by the columns, copied out to its rows of the result. -/
theorem wp_gemm (K : Dev nD × Fin 25 → ℕ) (c : Dev nD) (D : Fin 4 × Fin 4 → Prop) (a b : ℕ) (q r : Fin 4)
    {src : Memref sig .tc .hbm S512x8192 .bf16} (hsrc : src = blk q r) {dst : Memref sig .tc .hbm S512x1024 .f32} (hdst : dst = orow q r)
    {sm : DmaSem sig} (hsm : sm = dsem 0)
    {pay : Vec F S512x8192 .bf16 → Vec F S8192x1024 .bf16 → FVec F S512x1024 .f32} (hpay : pay = k0_pay2) {π : PosShare TreeShare}
    {i1 i2 i3 i4 i5 i6 i7 i8 i9 i10 i11 i12 i13 i14 i15}
    {α : Type} {Q : α → sProp 𝕄} {k : PUnit → Prog (TpuEff nD τ sig (Elt F) Λ₀ .tc) α} :
    iprop(Env m K ∗ Comp m c D a b ∗ Blk m c (q, r) π)
      ⊢ iprop(((Comp m c (fun p => D p ∨ p = (q, r)) a b ∗ Blk m c (q, r) π) -∗ WP c (k ⟨⟩) Q)
          -∗ WP c (.op (.enqueueDma src (.here (Memref.whole cc0_scratch1)) (.dma sm) i1 i2 i3) fun _ =>
              .op (.waitDma2 sm src (Memref.whole cc0_scratch1) i4 i5) fun _ =>
              .op (.load (Memref.whole cc0_scratch1) (Rect.unit (s := S512x8192) ![0, 0] S512x8192.size inb_S512x8192_S512x8192_0_0).toLoadRect i6) fun v =>
              .op (.load (Memref.whole cc0_scratch2) (Rect.unit (s := S8192x1024) ![0, 0] S8192x1024.size inb_S8192x1024_S8192x1024_0_0).toLoadRect i7) fun w =>
              .op (.load (Memref.whole cc0_scratch4) (Rect.unit (s := S512x1024) ![0, 0] S512x1024.size inb_S512x1024_S512x1024_0_0).toLoadRect i8) fun _ =>
              .op (.store (Memref.whole cc0_scratch4) (Rect.unit (s := S512x1024) ![0, 0] S512x1024.size inb_S512x1024_S512x1024_0_0) (pay v w) Finset.univ i9 i10) fun _ =>
              .op (.enqueueDma (Memref.whole cc0_scratch4) (.here dst) (.dma sm) i11 i12 i13) fun _ =>
              .op (.waitDma2 sm (Memref.whole cc0_scratch4) dst i14 i15) k) Q) := by
  subst hsrc hdst hsm hpay
  unfold Comp Blk AnyX AnyO OutP
  iintro ⟨#HE, ⟨⟨%fx, HX⟩, HW, ⟨%fo, HO⟩, ⟨%f, Hf, %hf⟩, Hz, HOw⟩, ⟨%fs, Hs, %hfs⟩⟩ Hk
  iapply (wp_copy m K c a b (sp := .hbm) (sp' := .vmem) (s := S512x8192) (e := .bf16) (by decide) (src := blk q r) (dst := Memref.whole cc0_scratch1)
    rfl (fun _ h => h) (Finset.subset_univ _)) $$ [Hs HX Hz HOw]
  · isplitr; · iexact HE
    isplitl [Hs]; · iexact Hs
    isplitl [HX]; · iexact HX
    isplitl [Hz]; · iexact Hz
    iexact HOw
  iintro ⟨Hs, HX, Hz, HOw⟩
  iapply (wp_load 𝒱₀ (c : Thread nD τ) none Set.univ (m := Memref.whole cc0_scratch1) (Finset.subset_univ _)) $$ HX
  iintro HX
  iapply (wp_load 𝒱₀ (c : Thread nD τ) none Set.univ (m := Memref.whole cc0_scratch2) (Finset.subset_univ _)) $$ HW
  iintro HW
  iapply (wp_load 𝒱₀ (c : Thread nD τ) none Set.univ (m := Memref.whole cc0_scratch4) (Finset.subset_univ _)) $$ HO
  iintro HO
  iapply (wp_store 𝒱₀ (c : Thread nD τ) none Set.univ (m := Memref.whole cc0_scratch4)
    (r := Rect.unit (s := S512x1024) ![0, 0] S512x1024.size inb_S512x1024_S512x1024_0_0) (Mk := Finset.univ) (Finset.subset_univ _)) $$ HO
  iintro HO
  rw [wr_o, rd_x, rd_w, wr_xall]
  iapply (wp_copy m K c a b (sp := .vmem) (sp' := .hbm) (s := S512x1024) (e := .f32) (by decide) (src := Memref.whole cc0_scratch4) (dst := orow q r)
    rfl (Finset.subset_univ _) (Finset.subset_univ _)) $$ [HO Hf Hz HOw]
  · isplitr; · iexact HE
    isplitl [HO]; · iexact HO
    isplitl [Hf]; · iexact Hf
    isplitl [Hz]; · iexact Hz
    iexact HOw
  iintro ⟨HO, Hf, Hz, HOw⟩
  iapply Hk
  isplitr [Hs]
  · isplitl [HX]; · iexists _; iexact HX
    isplitl [HW]; · iexact HW
    isplitl [HO]; · iexists _; iexact HO
    isplitl [Hf]
    · iexists _; isplitl [Hf]; · iexact Hf
      ipureintro
      intro i hi
      refine (orow_write q r _ _ i).trans ?_
      by_cases h : oblk i = (q, r)
      · rw [if_pos h]
        show k0_pay2 ((blk q r).view.read (Elt F) fs) (WB m c) (oloc i) = k0_pay2 (Xb m (oblk i)) (WB m c) (oloc i)
        rw [h, ← hfs]
      · rw [if_neg h]
        exact hf i (hi.resolve_right h)
    isplitl [Hz]; · iexact Hz
    iexact HOw
  iexists fs; isplitl [Hs]; · iexact Hs
  ipureintro; exact hfs

end Cert.KernelIdeal.Ring
-- ==== Proof.Pieces.lean ====
/-
# The ring all-gather product: the pieces of its trips

The sends and arrivals by their place in the ring's order, the trip that rounds one block of the device's own rows, and the
trip that rounds one part of its columns.
-/
module

public import proofs.«01_k».proof.Proof.Gemm
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sends and arrivals, by number -/

theorem slotR_lo (c : Dev nD) {k : ℕ} (h : k < 4) : slotR c k = (c, bk k) := if_pos h
theorem slotL_lo (c : Dev nD) {k : ℕ} (h : k < 4) : slotL c k = (c, bk k) := if_pos h
theorem slotR_hi (c : Dev nD) {k : ℕ} (h : ¬ k < 4) : slotR c k = (lf c, bk k) := if_neg h
theorem slotL_hi (c : Dev nD) {k : ℕ} (h : ¬ k < 4) : slotL c k = (rt c, bk (k + 2)) := if_neg h

/-- What device `c`'s `k`-th send to the right needs, and to the left; -/
def RS (c : Dev nD) (k : ℕ) : sProp 𝕄 := SendRes c (rt c) (slotR c k) (1 + k) (13 + k)
def LS (c : Dev nD) (k : ℕ) : sProp 𝕄 := SendRes c (lf c) (slotL c k) (7 + k) (19 + k)
/-- what its `k`-th arrival from the left needs, and from the right. -/
def RcvL (c : Dev nD) (k : ℕ) : sProp 𝕄 := iprop(cred (tallyAt (dcell c (13 + k)) () N) ∗ atPos ER (dcell c (13 + k)) 0 ∅ 0)
def RcvR (c : Dev nD) (k : ℕ) : sProp 𝕄 := iprop(cred (tallyAt (dcell c (19 + k)) () N) ∗ atPos ER (dcell c (19 + k)) 0 ∅ 0)

section Wrap

variable (K : Dev nD × Fin 25 → ℕ) (c : Dev nD)

/-- The `j`-th send to the right. -/
theorem wp_sendR {j : ℕ} (hj : j < 6) (b : ℕ) {n : Dev nD} (hn : n = rt c) {sS sV : DmaSem sig} (hsS : sS = dsem (1 + j)) (hsV : sV = dsem (13 + j))
    {src : Memref sig .tc .hbm S512x8192 .bf16} {dst : Memref sig (Dev.tc n : Thread nD τ).2.kind .hbm S512x8192 .bf16}
    {p : Fin 4 × Fin 4} (hp : slotR c j = p) (hsrc : src = blkP p) (hdst : dst = blkP p) {π : PosShare TreeShare}
    {hsc : dst.view.ref.isScScratch = false} {hwsrc : src.view.WordExact} {hwdst : dst.view.WordExact}
    {hsem : DmaTarget.Typed .hbm (.dma sV) (.remote (Dev.tc n : Thread nD τ) dst (.dma sS) hsc)}
    {α : Type} {Q : α → sProp 𝕄} {k : PUnit → Prog (TpuEff nD τ sig (Elt F) Λ₀ .tc) α} :
    iprop(Env m K ∗ RS c j ∗ Blk m c p π ∗ Ow c j b)
      ⊢ iprop(((Sent c (1 + j) ∗ Ow c (j + 1) b) -∗ WP c (k ⟨⟩) Q)
          -∗ WP c (.op (.enqueueDma src (.remote (Dev.tc n : Thread nD τ) dst (.dma sS) hsc) (.dma sV) hwsrc hwdst hsem) k) Q) := by
  subst hp
  unfold RS Ow
  exact wp_send m K c (rt c) n hn (slotR c j) (1 + j) (13 + j) (by omega) (by omega) (by omega) (by omega)
    (by rw [payload_recvL m (rt c) hj, lf_rt]) (owR c (j + 1) + owL c b) (by rw [owR_succ c hj, add_right_comm]) hsS hsV hsrc hdst

/-- The `j`-th send to the left. -/
theorem wp_sendL {j : ℕ} (hj : j < 6) (a : ℕ) {n : Dev nD} (hn : n = lf c) {sS sV : DmaSem sig} (hsS : sS = dsem (7 + j)) (hsV : sV = dsem (19 + j))
    {src : Memref sig .tc .hbm S512x8192 .bf16} {dst : Memref sig (Dev.tc n : Thread nD τ).2.kind .hbm S512x8192 .bf16}
    {p : Fin 4 × Fin 4} (hp : slotL c j = p) (hsrc : src = blkP p) (hdst : dst = blkP p) {π : PosShare TreeShare}
    {hsc : dst.view.ref.isScScratch = false} {hwsrc : src.view.WordExact} {hwdst : dst.view.WordExact}
    {hsem : DmaTarget.Typed .hbm (.dma sV) (.remote (Dev.tc n : Thread nD τ) dst (.dma sS) hsc)}
    {α : Type} {Q : α → sProp 𝕄} {k : PUnit → Prog (TpuEff nD τ sig (Elt F) Λ₀ .tc) α} :
    iprop(Env m K ∗ LS c j ∗ Blk m c p π ∗ Ow c a j)
      ⊢ iprop(((Sent c (7 + j) ∗ Ow c a (j + 1)) -∗ WP c (k ⟨⟩) Q)
          -∗ WP c (.op (.enqueueDma src (.remote (Dev.tc n : Thread nD τ) dst (.dma sS) hsc) (.dma sV) hwsrc hwdst hsem) k) Q) := by
  subst hp
  unfold LS Ow
  exact wp_send m K c (lf c) n hn (slotL c j) (7 + j) (19 + j) (by omega) (by omega) (by omega) (by omega)
    (by rw [payload_recvR m (lf c) hj, rt_lf]) (owR c a + owL c (j + 1)) (by rw [owL_succ c hj, add_assoc]) hsS hsV hsrc hdst

/-- The `j`-th arrival from the left, what is still to send coming after it in the order. -/
theorem wp_recvL {j : ℕ} (hj : j < 6) (a b : ℕ) (ha : 4 ≤ a) (hb : 4 ≤ b) (h6 : 4 ≤ j → 6 ≤ a ∧ 6 ≤ b) {p : Fin 4 × Fin 4} (hp : slotR (lf c) j = p)
    {s : DmaSem sig} (hs : s = dsem (13 + j)) {src dst : Memref sig .tc .hbm S512x8192 .bf16}
    {hsrc : src.view.WordExact} {hdst : dst.view.WordExact}
    {α : Type} {Q : α → sProp 𝕄} {k : PUnit → Prog (TpuEff nD τ sig (Elt F) Λ₀ .tc) α} :
    iprop(Env m K ∗ RcvL c j ∗ Ow c a b)
      ⊢ iprop(((Blk m c p fullShare ∗ semVal (dcell c (13 + j)) 0 ∗ Ow c a b) -∗ WP c (k ⟨⟩) Q)
          -∗ WP c (.op (.waitDma2 s src dst hsrc hdst) k) Q) := by
  have hlv : ∀ b', 4 ≤ b' → (4 ≤ j → 6 ≤ b') → ∀ i, b' ≤ i → i < 6 → lvOf (.dma (dsem (13 + j))) < if i < 4 then 2 else 3 := by
    intro b' h4 h6' i h1 h2
    have h := lv_recvL c hj
    unfold lv at h
    rw [h, if_neg (by omega : ¬ i < 4), if_pos (by by_contra hc; have := h6' (by omega); omega)]
    decide
  have H := wp_await m K c (13 + j) (by omega) (by omega) a b (hlv a ha fun h => (h6 h).1) (hlv b hb fun h => (h6 h).2) hs
    (src := src) (dst := dst) (hsrc := hsrc) (hdst := hdst) (Q := Q) (k := k)
  rw [payload_recvL m c hj, hp] at H
  unfold RcvL
  iintro ⟨#HE, ⟨Hc, Hat⟩, HO⟩
  iapply H
  isplitr; · iexact HE
  isplitl [Hc]; · iexact Hc
  isplitl [Hat]; · iexact Hat
  iexact HO

/-- The `j`-th arrival from the right. -/
theorem wp_recvR {j : ℕ} (hj : j < 6) (a b : ℕ) (ha : 4 ≤ a) (hb : 4 ≤ b) (h6 : 4 ≤ j → 6 ≤ a ∧ 6 ≤ b) {p : Fin 4 × Fin 4} (hp : slotL (rt c) j = p)
    {s : DmaSem sig} (hs : s = dsem (19 + j)) {src dst : Memref sig .tc .hbm S512x8192 .bf16}
    {hsrc : src.view.WordExact} {hdst : dst.view.WordExact}
    {α : Type} {Q : α → sProp 𝕄} {k : PUnit → Prog (TpuEff nD τ sig (Elt F) Λ₀ .tc) α} :
    iprop(Env m K ∗ RcvR c j ∗ Ow c a b)
      ⊢ iprop(((Blk m c p fullShare ∗ semVal (dcell c (19 + j)) 0 ∗ Ow c a b) -∗ WP c (k ⟨⟩) Q)
          -∗ WP c (.op (.waitDma2 s src dst hsrc hdst) k) Q) := by
  have hlv : ∀ b', 4 ≤ b' → (4 ≤ j → 6 ≤ b') → ∀ i, b' ≤ i → i < 6 → lvOf (.dma (dsem (19 + j))) < if i < 4 then 2 else 3 := by
    intro b' h4 h6' i h1 h2
    have h := lv_recvR c hj
    unfold lv at h
    rw [h, if_neg (by omega : ¬ i < 4), if_pos (by by_contra hc; have := h6' (by omega); omega)]
    decide
  have H := wp_await m K c (19 + j) (by omega) (by omega) a b (hlv a ha fun h => (h6 h).1) (hlv b hb fun h => (h6 h).2) hs
    (src := src) (dst := dst) (hsrc := hsrc) (hdst := hdst) (Q := Q) (k := k)
  rw [payload_recvR m c hj, hp] at H
  unfold RcvR
  iintro ⟨#HE, ⟨Hc, Hat⟩, HO⟩
  iapply H
  isplitr; · iexact HE
  isplitl [Hc]; · iexact Hc
  isplitl [Hat]; · iexact Hat
  iexact HO

/-- A departure waited for, nothing left to send. -/
theorem wp_sent {n : ℕ} (h0 : 0 < n) (hn : n < 13) {s : DmaSem sig} (hs : s = dsem n) {src dst : Memref sig .tc .hbm S512x8192 .bf16}
    {hsrc : src.view.WordExact} {hdst : dst.view.WordExact}
    {α : Type} {Q : α → sProp 𝕄} {k : PUnit → Prog (TpuEff nD τ sig (Elt F) Λ₀ .tc) α} :
    iprop(Env m K ∗ Sent c n ∗ Ow c 6 6)
      ⊢ iprop(((semVal (dcell c n) 0 ∗ Ow c 6 6) -∗ WP c (k ⟨⟩) Q)
          -∗ WP c (.op (.waitDma2 s src dst hsrc hdst) k) Q) := by
  unfold Sent
  iintro ⟨#HE, ⟨Hc, Hat⟩, HO⟩ Hk
  iapply (wp_await m K c n h0 (by omega) 6 6 (fun j _ _ => by omega) (fun j _ _ => by omega) hs) $$ [Hc Hat HO]
  · isplitr; · iexact HE
    isplitl [Hc]; · iexact Hc
    isplitl [Hat]; · iexact Hat
    iexact HO
  iintro ⟨-, H⟩
  iapply Hk
  iexact H

/-! ## Rounding one block of the device's rows -/

/-- Some contents in the tile the rows come in by. -/
def AnyXf (c : Dev nD) : sProp 𝕄 :=
  iprop(∃ f : Buf (Elt F) ((c : Thread nD τ).loc cc0_scratch0), (c : Thread nD τ).loc cc0_scratch0 ↦[Finset.univ]{fullShare} f)
/-- Some contents in the tile the columns come in by. -/
def AnyWf (c : Dev nD) : sProp 𝕄 :=
  iprop(∃ f : Buf (Elt F) ((c : Thread nD τ).loc cc0_scratch3), (c : Thread nD τ).loc cc0_scratch3 ↦[Finset.univ]{fullShare} f)
/-- The device's rows, and its columns. -/
def XIn (c : Dev nD) : sProp 𝕄 := (c : Thread nD τ).loc main_arg0 ↦[Finset.univ]{fullShare} m ((c : Thread nD τ).loc main_arg0)
def WIn (c : Dev nD) : sProp 𝕄 := (c : Thread nD τ).loc main_arg1 ↦[Finset.univ]{fullShare} m ((c : Thread nD τ).loc main_arg1)

/-- Block `r` of the device's rows: copied in, rounded, copied out to the gathered array. -/
theorem wp_cast (a b : ℕ) (r : Fin 4)
    {src : Memref sig .tc .hbm S512x8192 .f32} (hsrc : src = xrow r) {dst : Memref sig .tc .hbm S512x8192 .bf16} (hdst : dst = blk c r)
    {sm : DmaSem sig} (hsm : sm = dsem 0)
    {i1 i2 i3 i4 i5 i6 i7 i8 i9 i10 i11 i12 i13 i14}
    {α : Type} {Q : α → sProp 𝕄} {k : PUnit → Prog (TpuEff nD τ sig (Elt F) Λ₀ .tc) α} :
    iprop(Env m K ∗ AnyXf c ∗ AnyX c ∗ XIn m c ∗ xgAny c (c, r) ∗ semVal (dcell c 0) 0 ∗ Ow c a b)
      ⊢ iprop(((AnyXf c ∗ AnyX c ∗ XIn m c ∗ Blk m c (c, r) fullShare ∗ semVal (dcell c 0) 0 ∗ Ow c a b) -∗ WP c (k ⟨⟩) Q)
          -∗ WP c (.op (.enqueueDma src (.here (Memref.whole cc0_scratch0)) (.dma sm) i1 i2 i3) fun _ =>
              .op (.waitDma2 sm src (Memref.whole cc0_scratch0) i4 i5) fun _ =>
              .op (.load (Memref.whole cc0_scratch0) (Rect.unit (s := S512x8192) ![0, 0] S512x8192.size inb_S512x8192_S512x8192_0_0).toLoadRect i6) fun v =>
              .op (.load (Memref.whole cc0_scratch1) (Rect.unit (s := S512x8192) ![0, 0] S512x8192.size inb_S512x8192_S512x8192_0_0).toLoadRect i7) fun _ =>
              .op (.store (Memref.whole cc0_scratch1) (Rect.unit (s := S512x8192) ![0, 0] S512x8192.size inb_S512x8192_S512x8192_0_0) (k0_pay4 v) Finset.univ i8 i9) fun _ =>
              .op (.enqueueDma (Memref.whole cc0_scratch1) (.here dst) (.dma sm) i10 i11 i12) fun _ =>
              .op (.waitDma2 sm (Memref.whole cc0_scratch1) dst i13 i14) k) Q) := by
  subst hsrc hdst hsm
  unfold AnyX AnyXf XIn Blk xgAny
  iintro ⟨#HE, ⟨%f0, HXf⟩, ⟨%f1, HX⟩, Hx, ⟨%fd, Hd⟩, Hz, HOw⟩ Hk
  iapply (wp_copy m K c a b (sp := .hbm) (sp' := .vmem) (s := S512x8192) (e := .f32) (by decide) (src := xrow r) (dst := Memref.whole cc0_scratch0)
    rfl (Finset.subset_univ _) (Finset.subset_univ _)) $$ [Hx HXf Hz HOw]
  · isplitr; · iexact HE
    isplitl [Hx]; · iexact Hx
    isplitl [HXf]; · iexact HXf
    isplitl [Hz]; · iexact Hz
    iexact HOw
  iintro ⟨Hx, HXf, Hz, HOw⟩
  iapply (wp_load 𝒱₀ (c : Thread nD τ) none Set.univ (m := Memref.whole cc0_scratch0) (Finset.subset_univ _)) $$ HXf
  iintro HXf
  iapply (wp_load 𝒱₀ (c : Thread nD τ) none Set.univ (m := Memref.whole cc0_scratch1) (Finset.subset_univ _)) $$ HX
  iintro HX
  iapply (wp_store 𝒱₀ (c : Thread nD τ) none Set.univ (m := Memref.whole cc0_scratch1)
    (r := Rect.unit (s := S512x8192) ![0, 0] S512x8192.size inb_S512x8192_S512x8192_0_0) (Mk := Finset.univ) (Finset.subset_univ _)) $$ HX
  iintro HX
  rw [wr_x, rd_xf, wr_xfall]
  iapply (wp_copy m K c a b (sp := .vmem) (sp' := .hbm) (s := S512x8192) (e := .bf16) (by decide) (src := Memref.whole cc0_scratch1) (dst := blk c r)
    rfl (Finset.subset_univ _) (fun _ h => h)) $$ [HX Hd Hz HOw]
  · isplitr; · iexact HE
    isplitl [HX]; · iexact HX
    isplitl [Hd]; · iexact Hd
    isplitl [Hz]; · iexact Hz
    iexact HOw
  iintro ⟨HX, Hd, Hz, HOw⟩
  iapply Hk
  isplitl [HXf]; · iexists _; iexact HXf
  isplitl [HX]; · iexists _; iexact HX
  isplitl [Hx]; · iexact Hx
  isplitl [Hd]
  · iexists _; isplitl [Hd]; · iexact Hd
    ipureintro; exact View.read_write_univ _ _
  isplitl [Hz]; · iexact Hz
  iexact HOw

/-! ## Rounding one part of the device's columns -/

/-- The rounded columns, right below row `n`. -/
def WBelow (c : Dev nD) (n : ℕ) : sProp 𝕄 :=
  iprop(∃ f : Buf (Elt F) ((c : Thread nD τ).loc cc0_scratch2), ((c : Thread nD τ).loc cc0_scratch2 ↦[Finset.univ]{fullShare} f)
    ∗ ⌜∀ i : S8192x1024.Idx, (i 0).val < n → f i = WB m c i⌝)

set_option backward.proofsInPublic true in
/-- An element's place in part `j` of the columns. -/
def wloc (j : Fin 4) (i : S8192x1024.Idx) : S2048x1024.Idx
  | 0 => (⟨((i 0).val - 2048 * j.val) % 2048, Nat.mod_lt _ (by decide)⟩ : Fin 2048)
  | 1 => (i 1 : Fin 1024)

/-- Part `j` of the rounded columns, written over contents right below it, is right through it. -/
theorem w_write (j : Fin 4) (f : Vec F S8192x1024 .bf16) (h : ∀ a, (![2048 * j.val, 0] : Fin 2 → ℕ) a + S2048x1024.size a ≤ S8192x1024.size a)
    (hf : ∀ i : S8192x1024.Idx, (i 0).val < 2048 * j.val → f i = WB m c i) (i : S8192x1024.Idx) (hi : (i 0).val < 2048 * (j.val + 1)) :
    ((Memref.whole cc0_scratch2).access (Rect.unit (s := S8192x1024) ![2048 * j.val, 0] S2048x1024.size h)).write (Elt F) f
      (k0_pay1 ((wrow j).view.read (Elt F) (m ((c : Thread nD τ).loc main_arg1)))) Finset.univ i = WB m c i := by
  by_cases hlo : 2048 * j.val ≤ (i 0).val
  · have he : ((Memref.whole cc0_scratch2).access (Rect.unit (s := S8192x1024) ![2048 * j.val, 0] S2048x1024.size h)).emb (wloc j i) = i := by
      funext a
      apply Fin.ext
      match a with
      | ⟨0, _⟩ =>
        show 2048 * j.val + 1 * (((i 0).val - 2048 * j.val) % 2048) = (i 0).val
        omega
      | ⟨1, _⟩ =>
        show 0 + 1 * (i 1).val = (i 1).val
        omega
    have he' : (wrow j).view.emb (wloc j i) = i := he
    conv_lhs => rw [← he]
    rw [View.write_emb_of_mem _ _ (Finset.mem_univ _)]
    show k0_pay1 _ (wloc j i) = _
    unfold k0_pay1 WB
    rw [shapeCast_self]
    show FloatOps.truncf .bf16 _ (m ((c : Thread nD τ).loc main_arg1) ((wrow j).view.emb (wloc j i))) = FloatOps.truncf .bf16 _ (m ((c : Thread nD τ).loc main_arg1) i)
    rw [he']
  · rw [← hf i (by omega)]
    refine View.write_of_not_mem _ _ _ fun hm => hlo ?_
    obtain ⟨x, -, rfl⟩ := Finset.mem_map.1 hm
    show 2048 * j.val ≤ 2048 * j.val + 1 * (x 0).val
    omega

/-- Part `j` of the columns: copied in, rounded, stored among the rounded columns. -/
theorem wp_wpart (a b : ℕ) (j : Fin 4)
    {src : Memref sig .tc .hbm S2048x1024 .f32} (hsrc : src = wrow j) {sm : DmaSem sig} (hsm : sm = dsem 0)
    {o : Fin 2 → ℕ} (ho : o = ![2048 * j.val, 0]) {h : ∀ a, o a + S2048x1024.size a ≤ S8192x1024.size a}
    {i1 i2 i3 i4 i5 i6 i7 i8 i9}
    {α : Type} {Q : α → sProp 𝕄} {k : PUnit → Prog (TpuEff nD τ sig (Elt F) Λ₀ .tc) α} :
    iprop(Env m K ∗ AnyWf c ∗ WIn m c ∗ WBelow m c (2048 * j.val) ∗ semVal (dcell c 0) 0 ∗ Ow c a b)
      ⊢ iprop(((AnyWf c ∗ WIn m c ∗ WBelow m c (2048 * (j.val + 1)) ∗ semVal (dcell c 0) 0 ∗ Ow c a b) -∗ WP c (k ⟨⟩) Q)
          -∗ WP c (.op (.enqueueDma src (.here (Memref.whole cc0_scratch3)) (.dma sm) i1 i2 i3) fun _ =>
              .op (.waitDma2 sm src (Memref.whole cc0_scratch3) i4 i5) fun _ =>
              .op (.load (Memref.whole cc0_scratch3) (Rect.unit (s := S2048x1024) ![0, 0] S2048x1024.size inb_S2048x1024_S2048x1024_0_0).toLoadRect i6) fun v =>
              .op (.load (Memref.whole cc0_scratch2) (Rect.unit (s := S8192x1024) o S2048x1024.size h).toLoadRect i7) fun _ =>
              .op (.store (Memref.whole cc0_scratch2) (Rect.unit (s := S8192x1024) o S2048x1024.size h) (k0_pay1 v) Finset.univ i8 i9) k) Q) := by
  subst hsrc hsm ho
  unfold AnyWf WIn WBelow
  iintro ⟨#HE, ⟨%f0, HWf⟩, Hw, ⟨%f, HW, %hf⟩, Hz, HOw⟩ Hk
  iapply (wp_copy m K c a b (sp := .hbm) (sp' := .vmem) (s := S2048x1024) (e := .f32) (by decide) (src := wrow j) (dst := Memref.whole cc0_scratch3)
    rfl (Finset.subset_univ _) (Finset.subset_univ _)) $$ [Hw HWf Hz HOw]
  · isplitr; · iexact HE
    isplitl [Hw]; · iexact Hw
    isplitl [HWf]; · iexact HWf
    isplitl [Hz]; · iexact Hz
    iexact HOw
  iintro ⟨Hw, HWf, Hz, HOw⟩
  iapply (wp_load 𝒱₀ (c : Thread nD τ) none Set.univ (m := Memref.whole cc0_scratch3) (Finset.subset_univ _)) $$ HWf
  iintro HWf
  iapply (wp_load 𝒱₀ (c : Thread nD τ) none Set.univ (m := Memref.whole cc0_scratch2) (Finset.subset_univ _)) $$ HW
  iintro HW
  iapply (wp_store 𝒱₀ (c : Thread nD τ) none Set.univ (m := Memref.whole cc0_scratch2)
    (r := Rect.unit (s := S8192x1024) ![2048 * j.val, 0] S2048x1024.size h) (Mk := Finset.univ) (Finset.subset_univ _)) $$ HW
  iintro HW
  rw [rd_wf, wr_wfall]
  iapply Hk
  isplitl [HWf]; · iexists _; iexact HWf
  isplitl [Hw]; · iexact Hw
  isplitl [HW]
  · iexists _; isplitl [HW]; · iexact HW
    ipureintro; exact fun i hi => w_write m c j f h hf i hi
  isplitl [Hz]; · iexact Hz
  iexact HOw

end Wrap

end Cert.KernelIdeal.Ring
-- ==== Proof.Loops.lean ====
/-
# The ring all-gather product: its loops

The invariant of each of the six loops of the kernel, and the loop run by it.
-/
module

public import proofs.«01_k».proof.Proof.Pieces

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The printed places of the semaphores -/

theorem off3_at : ∀ t : Fin k0_t1_loop.trips, k0_off3 t = ![t.val] := by decide +kernel
theorem off8_at : ∀ t : Fin k0_t4_loop.trips, k0_off8 t = ![t.val] := by decide +kernel
theorem off10_at : ∀ t : Fin k0_t4_loop.trips, k0_off10 t = ![4 + t.val] := by decide +kernel
theorem off14_at : ∀ t : Fin k0_t4_loop.trips, ¬ t.val < 2 → k0_off14 t = ![4 + (t.val - 2)] := by decide +kernel
theorem off17_at : ∀ t : Fin k0_t5_loop.trips, k0_off17 t = ![4 + t.val] := by decide +kernel
theorem off22_at : ∀ t : Fin k0_t6_loop.trips, k0_off22 t = ![t.val] := by decide +kernel

theorem bk_add (n : ℕ) : bk (4 + n) = bk n := by unfold bk; apply Fin.ext; show (4 + n) % 4 = n % 4; omega
theorem bk_val {n : ℕ} (h : n < 4) : (bk n).val = n := Nat.mod_eq_of_lt h

/-! ## Runs of resources -/

theorem run_pop {a b : ℕ} (h : a < b) (A : ℕ → sProp 𝕄) : bigSep (Finset.Ico a b) A ⊢ iprop(A a ∗ bigSep (Finset.Ico (a + 1) b) A) :=
  Entails.of_eq (bigSep_Ico_succ_bot h A)
theorem run_push (b : ℕ) (A : ℕ → sProp 𝕄) : iprop(A b ∗ bigSep (Finset.Ico 0 b) A) ⊢ bigSep (Finset.Ico 0 (b + 1)) A :=
  Entails.of_eq (bigSep_Ico_succ_top (Nat.zero_le b) A).symm

/-- The sends to the right, `a` of them made; to the left, `b` of them. -/
def SndR (c : Dev nD) (a : ℕ) : sProp 𝕄 := iprop(bigSep (Finset.Ico a 6) (fun k => RS c k) ∗ bigSep (Finset.Ico 0 a) (fun k => Sent c (1 + k)))
def SndL (c : Dev nD) (b : ℕ) : sProp 𝕄 := iprop(bigSep (Finset.Ico b 6) (fun k => LS c k) ∗ bigSep (Finset.Ico 0 b) (fun k => Sent c (7 + k)))
/-- The arrivals from the left, `n` of them taken; from the right. -/
def RcvLs (c : Dev nD) (n : ℕ) : sProp 𝕄 := iprop(bigSep (Finset.Ico n 6) (fun k => RcvL c k) ∗ bigSep (Finset.Ico 0 n) (fun k => semVal (dcell c (13 + k)) 0))
def RcvRs (c : Dev nD) (n : ℕ) : sProp 𝕄 := iprop(bigSep (Finset.Ico n 6) (fun k => RcvR c k) ∗ bigSep (Finset.Ico 0 n) (fun k => semVal (dcell c (19 + k)) 0))

/-- A program at its end. -/
theorem wp_done (c : Dev nD) {α : Type} {a : α} {Q : α → sProp 𝕄} : Q a ⊢ WP c (.ret a) Q := by
  show Q a ⊢ iprop(|={Set.univ}[frame]=> Q a)
  iintro H; imodintro; iexact H

section Loops

variable (K : Dev nD × Fin 25 → ℕ) (c : Dev nD)

/-- The next send to the right, out of its run. -/
theorem wp_nextR {j : ℕ} (hj : j < 6) (b : ℕ) {n : Dev nD} (hn : n = rt c) {sS sV : DmaSem sig} (hsS : sS = dsem (1 + j)) (hsV : sV = dsem (13 + j))
    {src : Memref sig .tc .hbm S512x8192 .bf16} {dst : Memref sig (Dev.tc n : Thread nD τ).2.kind .hbm S512x8192 .bf16}
    {p : Fin 4 × Fin 4} (hp : slotR c j = p) (hsrc : src = blkP p) (hdst : dst = blkP p) {π : PosShare TreeShare}
    {hsc : dst.view.ref.isScScratch = false} {hwsrc : src.view.WordExact} {hwdst : dst.view.WordExact}
    {hsem : DmaTarget.Typed .hbm (.dma sV) (.remote (Dev.tc n : Thread nD τ) dst (.dma sS) hsc)}
    {α : Type} {Q : α → sProp 𝕄} {k : PUnit → Prog (TpuEff nD τ sig (Elt F) Λ₀ .tc) α} :
    iprop(Env m K ∗ SndR c j ∗ Blk m c p π ∗ Ow c j b)
      ⊢ iprop(((SndR c (j + 1) ∗ Ow c (j + 1) b) -∗ WP c (k ⟨⟩) Q)
          -∗ WP c (.op (.enqueueDma src (.remote (Dev.tc n : Thread nD τ) dst (.dma sS) hsc) (.dma sV) hwsrc hwdst hsem) k) Q) := by
  unfold SndR
  iintro ⟨#HE, ⟨HR, HS⟩, HB, HO⟩ Hk
  ihave HR := (run_pop hj _) $$ HR
  icases HR with ⟨H1, HR⟩
  iapply (wp_sendR m K c hj b hn hsS hsV hp hsrc hdst) $$ [H1 HB HO]
  · isplitr; · iexact HE
    isplitl [H1]; · iexact H1
    isplitl [HB]; · iexact HB
    iexact HO
  iintro ⟨H1, HO⟩
  iapply Hk
  isplitr [HO]
  · isplitl [HR]; · iexact HR
    iapply (run_push j (fun k => Sent c (1 + k)))
    isplitl [H1]; · iexact H1
    iexact HS
  iexact HO

/-- The next send to the left, out of its run. -/
theorem wp_nextL {j : ℕ} (hj : j < 6) (a : ℕ) {n : Dev nD} (hn : n = lf c) {sS sV : DmaSem sig} (hsS : sS = dsem (7 + j)) (hsV : sV = dsem (19 + j))
    {src : Memref sig .tc .hbm S512x8192 .bf16} {dst : Memref sig (Dev.tc n : Thread nD τ).2.kind .hbm S512x8192 .bf16}
    {p : Fin 4 × Fin 4} (hp : slotL c j = p) (hsrc : src = blkP p) (hdst : dst = blkP p) {π : PosShare TreeShare}
    {hsc : dst.view.ref.isScScratch = false} {hwsrc : src.view.WordExact} {hwdst : dst.view.WordExact}
    {hsem : DmaTarget.Typed .hbm (.dma sV) (.remote (Dev.tc n : Thread nD τ) dst (.dma sS) hsc)}
    {α : Type} {Q : α → sProp 𝕄} {k : PUnit → Prog (TpuEff nD τ sig (Elt F) Λ₀ .tc) α} :
    iprop(Env m K ∗ SndL c j ∗ Blk m c p π ∗ Ow c a j)
      ⊢ iprop(((SndL c (j + 1) ∗ Ow c a (j + 1)) -∗ WP c (k ⟨⟩) Q)
          -∗ WP c (.op (.enqueueDma src (.remote (Dev.tc n : Thread nD τ) dst (.dma sS) hsc) (.dma sV) hwsrc hwdst hsem) k) Q) := by
  unfold SndL
  iintro ⟨#HE, ⟨HR, HS⟩, HB, HO⟩ Hk
  ihave HR := (run_pop hj _) $$ HR
  icases HR with ⟨H1, HR⟩
  iapply (wp_sendL m K c hj a hn hsS hsV hp hsrc hdst) $$ [H1 HB HO]
  · isplitr; · iexact HE
    isplitl [H1]; · iexact H1
    isplitl [HB]; · iexact HB
    iexact HO
  iintro ⟨H1, HO⟩
  iapply Hk
  isplitr [HO]
  · isplitl [HR]; · iexact HR
    iapply (run_push j (fun k => Sent c (7 + k)))
    isplitl [H1]; · iexact H1
    iexact HS
  iexact HO

/-- The next arrival from the left, out of its run. -/
theorem wp_takeL {j : ℕ} (hj : j < 6) (a b : ℕ) (ha : 4 ≤ a) (hb : 4 ≤ b) (h6 : 4 ≤ j → 6 ≤ a ∧ 6 ≤ b) {p : Fin 4 × Fin 4} (hp : slotR (lf c) j = p)
    {s : DmaSem sig} (hs : s = dsem (13 + j)) {src dst : Memref sig .tc .hbm S512x8192 .bf16}
    {hsrc : src.view.WordExact} {hdst : dst.view.WordExact}
    {α : Type} {Q : α → sProp 𝕄} {k : PUnit → Prog (TpuEff nD τ sig (Elt F) Λ₀ .tc) α} :
    iprop(Env m K ∗ RcvLs c j ∗ Ow c a b)
      ⊢ iprop(((Blk m c p fullShare ∗ RcvLs c (j + 1) ∗ Ow c a b) -∗ WP c (k ⟨⟩) Q)
          -∗ WP c (.op (.waitDma2 s src dst hsrc hdst) k) Q) := by
  unfold RcvLs
  iintro ⟨#HE, ⟨HR, HS⟩, HO⟩ Hk
  ihave HR := (run_pop hj _) $$ HR
  icases HR with ⟨H1, HR⟩
  iapply (wp_recvL m K c hj a b ha hb h6 hp hs) $$ [H1 HO]
  · isplitr; · iexact HE
    isplitl [H1]; · iexact H1
    iexact HO
  iintro ⟨HB, H1, HO⟩
  iapply Hk
  isplitl [HB]; · iexact HB
  isplitr [HO]
  · isplitl [HR]; · iexact HR
    iapply (run_push j (fun k => semVal (dcell c (13 + k)) 0))
    isplitl [H1]; · iexact H1
    iexact HS
  iexact HO

/-- The next arrival from the right, out of its run. -/
theorem wp_takeR {j : ℕ} (hj : j < 6) (a b : ℕ) (ha : 4 ≤ a) (hb : 4 ≤ b) (h6 : 4 ≤ j → 6 ≤ a ∧ 6 ≤ b) {p : Fin 4 × Fin 4} (hp : slotL (rt c) j = p)
    {s : DmaSem sig} (hs : s = dsem (19 + j)) {src dst : Memref sig .tc .hbm S512x8192 .bf16}
    {hsrc : src.view.WordExact} {hdst : dst.view.WordExact}
    {α : Type} {Q : α → sProp 𝕄} {k : PUnit → Prog (TpuEff nD τ sig (Elt F) Λ₀ .tc) α} :
    iprop(Env m K ∗ RcvRs c j ∗ Ow c a b)
      ⊢ iprop(((Blk m c p fullShare ∗ RcvRs c (j + 1) ∗ Ow c a b) -∗ WP c (k ⟨⟩) Q)
          -∗ WP c (.op (.waitDma2 s src dst hsrc hdst) k) Q) := by
  unfold RcvRs
  iintro ⟨#HE, ⟨HR, HS⟩, HO⟩ Hk
  ihave HR := (run_pop hj _) $$ HR
  icases HR with ⟨H1, HR⟩
  iapply (wp_recvR m K c hj a b ha hb h6 hp hs) $$ [H1 HO]
  · isplitr; · iexact HE
    isplitl [H1]; · iexact H1
    iexact HO
  iintro ⟨HB, H1, HO⟩
  iapply Hk
  isplitl [HB]; · iexact HB
  isplitr [HO]
  · isplitl [HR]; · iexact HR
    iapply (run_push j (fun k => semVal (dcell c (19 + k)) 0))
    isplitl [H1]; · iexact H1
    iexact HS
  iexact HO

/-! ## The first loop: the device's own rows rounded and sent both ways -/

/-- Before trip `t`: the first `t` blocks are rounded and sent, a share of each kept. -/
def I1 (t : ℕ) : sProp 𝕄 :=
  iprop(bigSep (Finset.Ico t 4) (fun k => xgAny c (c, bk k)) ∗ SndR c t ∗ SndL c t
    ∗ bigSep (Finset.Ico 0 t) (fun k => Blk m c (c, bk k) fullShare.right)
    ∗ AnyXf c ∗ AnyX c ∗ XIn m c ∗ semVal (dcell c 0) 0 ∗ Ow c t t)

set_option maxHeartbeats 800000 in
theorem trip1 (v13 v24 : BitVec 32) (t : Fin k0_t1_loop.trips) :
    iprop(Env m K ∗ I1 m c t.val) ⊢ WP c (k0_t1_body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 c v13 v24 t ()) (fun _ => iprop(Env m K ∗ I1 m c (t.val + 1))) := by
  have ht : t.val < 4 := trips1 ▸ t.isLt
  unfold k0_t1_body
  rw [k0_part1_eq_skeleton]; unfold k0_part1_skel
  simp only [Prog.lift, Prog.bind_op, Prog.bind_ret, Prog.pure_eq_ret]
  unfold I1
  iintro ⟨#HE, Hown, HR, HL, HB, HXf, HX, Hx, Hz, HO⟩
  ihave Hown := (run_pop ht _) $$ Hown
  icases Hown with ⟨H1, Hown⟩
  iapply (wp_cast m K c t.val t.val (bk t.val) (by congr 1; exact Rect.unit_congr (off1_at t) _ _) (blk_of _ _ c (bk t.val) (off2_at c t)) sem_copy) $$ [HXf HX Hx H1 Hz HO]
  · isplitr; · iexact HE
    isplitl [HXf]; · iexact HXf
    isplitl [HX]; · iexact HX
    isplitl [Hx]; · iexact Hx
    isplitl [H1]; · iexact H1
    isplitl [Hz]; · iexact Hz
    iexact HO
  iintro ⟨HXf, HX, Hx, H1, Hz, HO⟩
  ihave H1 := (Blk_halves m c (c, bk t.val) fullShare) $$ H1
  icases H1 with ⟨H1, Hkeep⟩
  ihave H1 := (Blk_halves m c (c, bk t.val) fullShare.left) $$ H1
  icases H1 with ⟨H1, H2⟩
  iapply (wp_nextR m K c (show t.val < 6 by omega) t.val (dev3_eq c) (sem_sendR _ _ t.val (by omega) (off3_at t)) (sem_recvL _ _ t.val (by omega) (off3_at t))
    (slotR_lo c ht) (blk_of _ _ c (bk t.val) (off2_at c t)) (blk_of _ _ c (bk t.val) (off2_at c t))) $$ [HR H1 HO]
  · isplitr; · iexact HE
    isplitl [HR]; · iexact HR
    isplitl [H1]; · iexact H1
    iexact HO
  iintro ⟨HR, HO⟩
  iapply (wp_nextL m K c (show t.val < 6 by omega) (t.val + 1) (dev4_eq c) (sem_sendL _ _ t.val (by omega) (off3_at t)) (sem_recvR _ _ t.val (by omega) (off3_at t))
    (slotL_lo c ht) (blk_of _ _ c (bk t.val) (off2_at c t)) (blk_of _ _ c (bk t.val) (off2_at c t))) $$ [HL H2 HO]
  · isplitr; · iexact HE
    isplitl [HL]; · iexact HL
    isplitl [H2]; · iexact H2
    iexact HO
  iintro ⟨HL, HO⟩
  iapply (wp_done c)
  isplitr; · iexact HE
  isplitl [Hown]; · iexact Hown
  isplitl [HR]; · iexact HR
  isplitl [HL]; · iexact HL
  isplitl [HB Hkeep]
  · iapply (run_push t.val (fun k => Blk m c (c, bk k) fullShare.right))
    isplitl [Hkeep]; · iexact Hkeep
    iexact HB
  isplitl [HXf]; · iexact HXf
  isplitl [HX]; · iexact HX
  isplitl [Hx]; · iexact Hx
  isplitl [Hz]; · iexact Hz
  iexact HO

/-! ## The second loop: the device's columns rounded -/

/-- Before trip `t`: the first `t` parts of the columns are rounded. -/
def I2 (t : ℕ) : sProp 𝕄 := iprop(AnyWf c ∗ WIn m c ∗ WBelow m c (2048 * t) ∗ semVal (dcell c 0) 0 ∗ Ow c 4 4)

theorem trip2 (t : Fin k0_t2_loop.trips) :
    iprop(Env m K ∗ I2 m c t.val) ⊢ WP c (k0_t2_body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 t ()) (fun _ => iprop(Env m K ∗ I2 m c (t.val + 1))) := by
  have ht : t.val < 4 := trips2 ▸ t.isLt
  have hb : (bk t.val).val = t.val := bk_val ht
  unfold k0_t2_body
  simp only [Prog.lift, Prog.bind_op, Prog.bind_ret, Prog.pure_eq_ret]
  unfold I2
  iintro ⟨#HE, H⟩
  iapply (wp_wpart m K c 4 4 (bk t.val) (by congr 1; exact Rect.unit_congr (off4_at t) _ _) sem_copy (off5_at t)) $$ [H]
  · isplitr; · iexact HE
    rw [hb]; iexact H
  rw [hb]
  iintro H
  iapply (wp_done c)
  isplitr; · iexact HE
  iexact H

/-! ## The third loop: the device's own blocks multiplied -/

/-- Before trip `t`: the result is right on the first `t` blocks of the device's own chunk. -/
def I3 (t : ℕ) : sProp 𝕄 :=
  iprop(Comp m c (fun p => ∃ j, j < t ∧ p = (c, bk j)) 4 4 ∗ bigSep (Finset.Ico t 4) (fun k => Blk m c (c, bk k) fullShare.right))

theorem trip3 (t : Fin k0_t3_loop.trips) :
    iprop(Env m K ∗ I3 m c t.val) ⊢ WP c (k0_t3_body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 c t ()) (fun _ => iprop(Env m K ∗ I3 m c (t.val + 1))) := by
  have ht : t.val < 4 := trips3 ▸ t.isLt
  unfold k0_t3_body
  simp only [Prog.lift, Prog.bind_op, Prog.bind_ret, Prog.pure_eq_ret]
  unfold I3
  iintro ⟨#HE, HC, HB⟩
  ihave HB := (run_pop ht _) $$ HB
  icases HB with ⟨H1, HB⟩
  iapply (wp_gemm m K c _ 4 4 c (bk t.val) (blk_of _ _ c (bk t.val) (off6_at c t)) (by congr 1; exact Rect.unit_congr (off7_at c t) _ _) sem_copy rfl) $$ [HC H1]
  · isplitr; · iexact HE
    isplitl [HC]; · iexact HC
    iexact H1
  iintro ⟨HC, -⟩
  iapply (wp_done c)
  isplitr; · iexact HE
  isplitl [HC]
  · iapply (Comp_congr m c _ _ (fun p hp => ?_) 4 4) $$ HC
    obtain ⟨j, hj, rfl⟩ := hp
    by_cases hjt : j < t.val
    · exact Or.inl ⟨j, hjt, rfl⟩
    · obtain rfl : j = t.val := by omega
      exact Or.inr rfl
  iexact HB

/-! ## The fourth loop: the neighbours' chunks taken, relayed and multiplied -/

theorem Comp_ow (D : Fin 4 × Fin 4 → Prop) (a b : ℕ) : Comp m c D a b ⊢ iprop(Ow c a b ∗ ∀ a' b', Ow c a' b' -∗ Comp m c D a' b') := by
  unfold Comp
  iintro ⟨HX, HW, HO, Hf, Hz, HOw⟩
  isplitl [HOw]; · iexact HOw
  iintro %a' %b' HOw
  isplitl [HX]; · iexact HX
  isplitl [HW]; · iexact HW
  isplitl [HO]; · iexact HO
  isplitl [Hf]; · iexact Hf
  isplitl [Hz]; · iexact Hz
  iexact HOw

/-- One block taken from the left, relayed to the right while there is one to relay, and multiplied. -/
theorem wp_left (v13 v24 : BitVec 32) (t : Fin k0_t4_loop.trips) (D : Fin 4 × Fin 4 → Prop) (a a' b : ℕ) (ha : a = 4 + min t.val 2) (ha' : a' = 4 + min (t.val + 1) 2) (hb : 4 ≤ b)
    {α : Type} {Q : α → sProp 𝕄} {k : (Σ' (_ : BitVec 32), BitVec 32) → Prog (TpuEff nD τ sig (Elt F) Λ₀ .tc) α} :
    iprop(Env m K ∗ Comp m c D a b ∗ SndR c a ∗ RcvLs c t.val)
      ⊢ iprop((∀ r, (Comp m c (fun p => D p ∨ p = (lf c, bk t.val)) a' b ∗ SndR c a' ∗ RcvLs c (t.val + 1)) -∗ WP c (k r) Q)
          -∗ WP c (k0_part2 (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 c v13 v24 0#32 1#32 t >>= k) Q) := by
  have ht : t.val < 4 := trips4 ▸ t.isLt
  rw [k0_part2_eq_skeleton]; unfold k0_part2_skel
  by_cases h : t.val < 2
  · obtain rfl : a = 4 + t.val := by omega
    obtain rfl : a' = 4 + t.val + 1 := by omega
    have hc : k0_cond1 t = 1#1 := (cond1_iff t).2 h
    simp only [dif_pos hc, Prog.lift, Prog.bind_op, Prog.bind_ret, Prog.pure_eq_ret]
    iintro ⟨#HE, HC, HS, HR⟩ Hk
    ihave HC := (Comp_ow m c _ _ _) $$ HC
    icases HC with ⟨HO, HC⟩
    iapply (wp_takeL m K c (show t.val < 6 by omega) (4 + t.val) b (by omega) hb (by omega) (slotR_lo (lf c) ht) (sem_recvL _ _ t.val (by omega) (off8_at t))) $$ [HR HO]
    · isplitr; · iexact HE
      isplitl [HR]; · iexact HR
      iexact HO
    iintro ⟨HB, HR, HO⟩
    ihave HB := (Blk_halves m c (lf c, bk t.val) fullShare) $$ HB
    icases HB with ⟨H1, H2⟩
    iapply (wp_nextR m K c (show 4 + t.val < 6 by omega) b (Fin.ext (dev5_val c)) (sem_sendR _ _ (4 + t.val) (by omega) (off10_at t)) (sem_recvL _ _ (4 + t.val) (by omega) (off10_at t))
      ((slotR_hi c (by omega)).trans (by rw [bk_add])) (blk_of _ _ (lf c) (bk t.val) (off11_at c t)) (blk_of _ _ (lf c) (bk t.val) (off11_at c t))) $$ [HS H1 HO]
    · isplitr; · iexact HE
      isplitl [HS]; · iexact HS
      isplitl [H1]; · iexact H1
      iexact HO
    iintro ⟨HS, HO⟩
    ispecialize HC $$ %(4 + t.val + 1) %b HO
    iapply (wp_gemm m K c _ (4 + t.val + 1) b (lf c) (bk t.val) (blk_of _ _ (lf c) (bk t.val) (off9_at c t)) (by congr 1; exact Rect.unit_congr (off12_at c t) _ _) sem_copy rfl) $$ [HC H2]
    · isplitr; · iexact HE
      isplitl [HC]; · iexact HC
      iexact H2
    iintro ⟨HC, -⟩
    iapply Hk
    isplitl [HC]; · iexact HC
    isplitl [HS]; · iexact HS
    iexact HR
  · obtain rfl : a = 6 := by omega
    obtain rfl : a' = 6 := by omega
    have hc : ¬ k0_cond1 t = 1#1 := fun hc => h ((cond1_iff t).1 hc)
    simp only [dif_neg hc, Prog.lift, Prog.bind_op, Prog.bind_ret, Prog.pure_eq_ret]
    iintro ⟨#HE, HC, HS, HR⟩ Hk
    ihave HC := (Comp_ow m c _ _ _) $$ HC
    icases HC with ⟨HO, HC⟩
    iapply (wp_takeL m K c (show t.val < 6 by omega) 6 b (by omega) hb (by omega) (slotR_lo (lf c) ht) (sem_recvL _ _ t.val (by omega) (off8_at t))) $$ [HR HO]
    · isplitr; · iexact HE
      isplitl [HR]; · iexact HR
      iexact HO
    iintro ⟨HB, HR, HO⟩
    ispecialize HC $$ %6 %b HO
    iapply (wp_gemm m K c _ 6 b (lf c) (bk t.val) (blk_of _ _ (lf c) (bk t.val) (off9_at c t)) (by congr 1; exact Rect.unit_congr (off12_at c t) _ _) sem_copy rfl) $$ [HC HB]
    · isplitr; · iexact HE
      isplitl [HC]; · iexact HC
      iexact HB
    iintro ⟨HC, -⟩
    iapply Hk
    isplitl [HC]; · iexact HC
    isplitl [HS]; · iexact HS
    iexact HR

/-- Before trip `t`: the result is right on the device's own chunk and the first `t` blocks of each neighbour's. -/
def I4 (t : ℕ) : sProp 𝕄 :=
  iprop(Comp m c (fun p => p.1 = c ∨ ((p.1 = lf c ∨ p.1 = rt c) ∧ p.2.val < t)) (4 + min t 2) (4 + (t - 2))
    ∗ SndR c (4 + min t 2) ∗ SndL c (4 + (t - 2)) ∗ RcvLs c t ∗ RcvRs c t)

theorem D4_step (t : ℕ) (ht : t < 4) (p : Fin 4 × Fin 4) (hp : p.1 = c ∨ ((p.1 = lf c ∨ p.1 = rt c) ∧ p.2.val < t + 1)) :
    ((p.1 = c ∨ ((p.1 = lf c ∨ p.1 = rt c) ∧ p.2.val < t)) ∨ p = (lf c, bk t)) ∨ p = (rt c, bk t) := by
  rcases hp with h | ⟨h, h2⟩
  · exact Or.inl (Or.inl (Or.inl h))
  by_cases h3 : p.2.val < t
  · exact Or.inl (Or.inl (Or.inr ⟨h, h3⟩))
  have h4 : p.2 = bk t := Fin.ext (by rw [bk_val ht]; omega)
  rcases h with h | h
  · exact Or.inl (Or.inr (Prod.ext h h4))
  · exact Or.inr (Prod.ext h h4)

set_option maxHeartbeats 800000 in
theorem trip4 (v13 v24 : BitVec 32) (t : Fin k0_t4_loop.trips) :
    iprop(Env m K ∗ I4 m c t.val) ⊢ WP c (k0_t4_body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 c v13 v24 t ()) (fun _ => iprop(Env m K ∗ I4 m c (t.val + 1))) := by
  have ht : t.val < 4 := trips4 ▸ t.isLt
  unfold k0_t4_body I4
  iintro ⟨#HE, HC, HSR, HSL, HRL, HRR⟩
  iapply (wp_left m K c v13 v24 t (fun p => p.1 = c ∨ ((p.1 = lf c ∨ p.1 = rt c) ∧ p.2.val < t.val)) (4 + min t.val 2) (4 + min (t.val + 1) 2) (4 + (t.val - 2)) rfl rfl (by omega)) $$ [HC HSR HRL]
  · isplitr; · iexact HE
    isplitl [HC]; · iexact HC
    isplitl [HSR]; · iexact HSR
    iexact HRL
  iintro %r ⟨HC, HSR, HRL⟩
  ihave HC := (Comp_ow m c _ _ _) $$ HC
  icases HC with ⟨HO, HC⟩
  by_cases h : t.val < 2
  · have hc : ¬ k0_cond2 t = 1#1 := fun hc => (cond2_iff t).1 hc h
    simp only [dif_neg hc, Prog.lift, Prog.bind_op, Prog.bind_ret, Prog.pure_eq_ret]
    rw [show t.val + 1 - 2 = t.val - 2 by omega]
    iapply (wp_takeR m K c (show t.val < 6 by omega) (4 + min (t.val + 1) 2) (4 + (t.val - 2)) (by omega) (by omega) (by omega) (slotL_lo (rt c) ht) (sem_recvR _ _ t.val (by omega) (off8_at t))) $$ [HRR HO]
    · isplitr; · iexact HE
      isplitl [HRR]; · iexact HRR
      iexact HO
    iintro ⟨HB, HRR, HO⟩
    ispecialize HC $$ %(4 + min (t.val + 1) 2) %(4 + (t.val - 2)) HO
    iapply (wp_gemm m K c _ _ _ (rt c) (bk t.val) (blk_of _ _ (rt c) (bk t.val) (off13_at c t)) (by congr 1; exact Rect.unit_congr (off16_at c t) _ _) sem_copy rfl) $$ [HC HB]
    · isplitr; · iexact HE
      isplitl [HC]; · iexact HC
      iexact HB
    iintro ⟨HC, -⟩
    iapply (wp_done c)
    isplitr; · iexact HE
    isplitl [HC]; · iapply (Comp_congr m c _ _ (D4_step c t.val ht)); iexact HC
    isplitl [HSR]; · iexact HSR
    isplitl [HSL]; · iexact HSL
    isplitl [HRL]; · iexact HRL
    iexact HRR
  · have hc : k0_cond2 t = 1#1 := (cond2_iff t).2 h
    simp only [dif_pos hc, Prog.lift, Prog.bind_op, Prog.bind_ret, Prog.pure_eq_ret]
    rw [show 4 + (t.val + 1 - 2) = 4 + (t.val - 2) + 1 by omega]
    iapply (wp_takeR m K c (show t.val < 6 by omega) (4 + min (t.val + 1) 2) (4 + (t.val - 2)) (by omega) (by omega) (by omega) (slotL_lo (rt c) ht) (sem_recvR _ _ t.val (by omega) (off8_at t))) $$ [HRR HO]
    · isplitr; · iexact HE
      isplitl [HRR]; · iexact HRR
      iexact HO
    iintro ⟨HB, HRR, HO⟩
    ihave HB := (Blk_halves m c (rt c, bk t.val) fullShare) $$ HB
    icases HB with ⟨H1, H2⟩
    iapply (wp_nextL m K c (show 4 + (t.val - 2) < 6 by omega) (4 + min (t.val + 1) 2) (Fin.ext (dev6_val c)) (sem_sendL _ _ (4 + (t.val - 2)) (by omega) (off14_at t h)) (sem_recvR _ _ (4 + (t.val - 2)) (by omega) (off14_at t h))
      ((slotL_hi c (by omega)).trans (by rw [show 4 + (t.val - 2) + 2 = 4 + t.val by omega, bk_add])) (blk_of _ _ (rt c) (bk t.val) (off15_at c t)) (blk_of _ _ (rt c) (bk t.val) (off15_at c t))) $$ [HSL H1 HO]
    · isplitr; · iexact HE
      isplitl [HSL]; · iexact HSL
      isplitl [H1]; · iexact H1
      iexact HO
    iintro ⟨HSL, HO⟩
    ispecialize HC $$ %(4 + min (t.val + 1) 2) %(4 + (t.val - 2) + 1) HO
    iapply (wp_gemm m K c _ _ _ (rt c) (bk t.val) (blk_of _ _ (rt c) (bk t.val) (off13_at c t)) (by congr 1; exact Rect.unit_congr (off16_at c t) _ _) sem_copy rfl) $$ [HC H2]
    · isplitr; · iexact HE
      isplitl [HC]; · iexact HC
      iexact H2
    iintro ⟨HC, -⟩
    iapply (wp_done c)
    isplitr; · iexact HE
    isplitl [HC]; · iapply (Comp_congr m c _ _ (D4_step c t.val ht)); iexact HC
    isplitl [HSR]; · iexact HSR
    isplitl [HSL]; · iexact HSL
    isplitl [HRL]; · iexact HRL
    iexact HRR

/-! ## The fifth loop: the opposite device's chunk taken from both sides and multiplied -/

/-- Before trip `t`: the result is right off the opposite chunk, and on the first `t` blocks of each of its halves. -/
def I5 (t : ℕ) : sProp 𝕄 :=
  iprop(Comp m c (fun p => p.1 ≠ dg c ∨ p.2.val < t ∨ (2 ≤ p.2.val ∧ p.2.val < 2 + t)) 6 6 ∗ RcvLs c (4 + t) ∗ RcvRs c (4 + t))

theorem D5_step (t : ℕ) (ht : t < 2) (p : Fin 4 × Fin 4) (hp : p.1 ≠ dg c ∨ p.2.val < t + 1 ∨ (2 ≤ p.2.val ∧ p.2.val < 2 + (t + 1))) :
    ((p.1 ≠ dg c ∨ p.2.val < t ∨ (2 ≤ p.2.val ∧ p.2.val < 2 + t)) ∨ p = (dg c, bk t)) ∨ p = (dg c, bk (2 + t)) := by
  by_cases h : p.1 = dg c
  · rcases hp with h1 | h1 | ⟨h1, h2⟩
    · exact absurd h h1
    · by_cases h3 : p.2.val < t
      · exact Or.inl (Or.inl (Or.inr (Or.inl h3)))
      · exact Or.inl (Or.inr (Prod.ext h (Fin.ext (by rw [bk_val (by omega)]; omega))))
    · by_cases h3 : p.2.val < 2 + t
      · exact Or.inl (Or.inl (Or.inr (Or.inr ⟨h1, h3⟩)))
      · exact Or.inr (Prod.ext h (Fin.ext (by rw [bk_val (by omega)]; omega)))
  · exact Or.inl (Or.inl (Or.inl h))

set_option maxHeartbeats 800000 in
theorem trip5 (v13 v24 v35 : BitVec 32) (t : Fin k0_t5_loop.trips) :
    iprop(Env m K ∗ I5 m c t.val) ⊢ WP c (k0_t5_body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 c v13 v24 v35 t ()) (fun _ => iprop(Env m K ∗ I5 m c (t.val + 1))) := by
  have ht : t.val < 2 := trips5 ▸ t.isLt
  unfold k0_t5_body
  rw [k0_part4_eq_skeleton]; unfold k0_part4_skel
  rw [k0_part3_eq_skeleton]; unfold k0_part3_skel
  simp only [Prog.lift, Prog.bind_op, Prog.bind_ret, Prog.pure_eq_ret]
  unfold I5
  iintro ⟨#HE, HC, HRL, HRR⟩
  ihave HC := (Comp_ow m c _ _ _) $$ HC
  icases HC with ⟨HO, HC⟩
  iapply (wp_takeL m K c (show 4 + t.val < 6 by omega) 6 6 (by omega) (by omega) (by omega) (p := (dg c, bk t.val))
    ((slotR_hi (lf c) (by omega)).trans (by rw [bk_add, lf_lf])) (sem_recvL _ _ (4 + t.val) (by omega) (off17_at t))) $$ [HRL HO]
  · isplitr; · iexact HE
    isplitl [HRL]; · iexact HRL
    iexact HO
  iintro ⟨HB, HRL, HO⟩
  ispecialize HC $$ %6 %6 HO
  iapply (wp_gemm m K c _ 6 6 (dg c) (bk t.val) (blk_of _ _ (dg c) (bk t.val) (off18_at c t)) (by congr 1; exact Rect.unit_congr (off19_at c t) _ _) sem_copy rfl) $$ [HC HB]
  · isplitr; · iexact HE
    isplitl [HC]; · iexact HC
    iexact HB
  iintro ⟨HC, -⟩
  ihave HC := (Comp_ow m c _ _ _) $$ HC
  icases HC with ⟨HO, HC⟩
  iapply (wp_takeR m K c (show 4 + t.val < 6 by omega) 6 6 (by omega) (by omega) (by omega) (p := (dg c, bk (2 + t.val)))
    ((slotL_hi (rt c) (by omega)).trans (by rw [show 4 + t.val + 2 = 4 + (2 + t.val) by omega, bk_add, rt_rt])) (sem_recvR _ _ (4 + t.val) (by omega) (off17_at t))) $$ [HRR HO]
  · isplitr; · iexact HE
    isplitl [HRR]; · iexact HRR
    iexact HO
  iintro ⟨HB, HRR, HO⟩
  ispecialize HC $$ %6 %6 HO
  iapply (wp_gemm m K c _ 6 6 (dg c) (bk (2 + t.val)) (blk_of _ _ (dg c) (bk (2 + t.val)) (off20_at c t)) (by congr 1; exact Rect.unit_congr (off21_at c t) _ _) sem_copy rfl) $$ [HC HB]
  · isplitr; · iexact HE
    isplitl [HC]; · iexact HC
    iexact HB
  iintro ⟨HC, -⟩
  iapply (wp_done c)
  isplitr; · iexact HE
  isplitl [HC]; · iapply (Comp_congr m c _ _ (D5_step c t.val ht)); iexact HC
  isplitl [HRL]; · iexact HRL
  iexact HRR

/-! ## The sixth loop: the departures waited for -/

/-- Before trip `t`: the first `t` departures each way are waited for. -/
def I6 (t : ℕ) : sProp 𝕄 :=
  iprop(Ow c 6 6 ∗ (bigSep (Finset.Ico t 6) fun k => Sent c (1 + k)) ∗ (bigSep (Finset.Ico t 6) fun k => Sent c (7 + k))
    ∗ (bigSep (Finset.Ico 0 t) fun k => semVal (dcell c (1 + k)) 0) ∗ (bigSep (Finset.Ico 0 t) fun k => semVal (dcell c (7 + k)) 0))

theorem trip6 (t : Fin k0_t6_loop.trips) :
    iprop(Env m K ∗ I6 c t.val) ⊢ WP c (k0_t6_body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9 t ()) (fun _ => iprop(Env m K ∗ I6 c (t.val + 1))) := by
  have ht : t.val < 6 := trips6 ▸ t.isLt
  unfold k0_t6_body
  simp only [Prog.lift, Prog.bind_op, Prog.bind_ret, Prog.pure_eq_ret]
  unfold I6
  iintro ⟨#HE, HO, HSR, HSL, HZR, HZL⟩
  ihave HSR := (run_pop ht _) $$ HSR
  icases HSR with ⟨H1, HSR⟩
  ihave HSL := (run_pop ht _) $$ HSL
  icases HSL with ⟨H2, HSL⟩
  iapply (wp_sent m K c (n := 1 + t.val) (by omega) (by omega) (sem_sendR _ _ t.val ht (off22_at t))) $$ [H1 HO]
  · isplitr; · iexact HE
    isplitl [H1]; · iexact H1
    iexact HO
  iintro ⟨H1, HO⟩
  iapply (wp_sent m K c (n := 7 + t.val) (by omega) (by omega) (sem_sendL _ _ t.val ht (off22_at t))) $$ [H2 HO]
  · isplitr; · iexact HE
    isplitl [H2]; · iexact H2
    iexact HO
  iintro ⟨H2, HO⟩
  iapply (wp_done c)
  isplitr; · iexact HE
  isplitl [HO]; · iexact HO
  isplitl [HSR]; · iexact HSR
  isplitl [HSL]; · iexact HSL
  isplitl [HZR H1]
  · iapply (run_push t.val (fun k => semVal (dcell c (1 + k)) 0))
    isplitl [H1]; · iexact H1
    iexact HZR
  · iapply (run_push t.val (fun k => semVal (dcell c (7 + k)) 0))
    isplitl [H2]; · iexact H2
    iexact HZL

end Loops

end Cert.KernelIdeal.Ring
-- ==== Proof.Body.lean ====
/-
# The ring all-gather product: the kernel on one device

The whole body of the kernel on a device, from what the launch deals it to the computed result.
-/
module

public import proofs.«01_k».proof.Proof.Loops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the launch deals a device -/

/-- The duties device `c` pays: its neighbours' barriers', its own departures', its neighbours' arrivals'. -/
def Pay (c : Dev nD) : sProp 𝕄 :=
  iprop(dutyTok ER (bcell (lf c)) 0 true ∗ dutyTok ER (bcell (rt c)) 0 false
    ∗ (bigSep (Finset.Ico 0 6) fun k => dutyTok ER (dcell c (1 + k)) 0 false) ∗ (bigSep (Finset.Ico 0 6) fun k => dutyTok ER (dcell c (7 + k)) 0 false)
    ∗ (bigSep (Finset.Ico 0 6) fun k => dutyTok ER (dcell (rt c) (13 + k)) 0 false) ∗ (bigSep (Finset.Ico 0 6) fun k => dutyTok ER (dcell (lf c) (19 + k)) 0 false))
/-- Its places at its own semaphores. -/
def Pos (c : Dev nD) : sProp 𝕄 :=
  iprop(atPos ER (bcell c) 0 ∅ 0
    ∗ (bigSep (Finset.Ico 0 6) fun k => atPos ER (dcell c (1 + k)) 0 ∅ 0) ∗ (bigSep (Finset.Ico 0 6) fun k => atPos ER (dcell c (7 + k)) 0 ∅ 0)
    ∗ (bigSep (Finset.Ico 0 6) fun k => atPos ER (dcell c (13 + k)) 0 ∅ 0) ∗ (bigSep (Finset.Ico 0 6) fun k => atPos ER (dcell c (19 + k)) 0 ∅ 0))
/-- The credits for what it waits for. -/
def Crd (c : Dev nD) : sProp 𝕄 :=
  iprop(cred (tallyAt (bcell c) () 2)
    ∗ (bigSep (Finset.Ico 0 6) fun k => cred (tallyAt (dcell c (13 + k)) () N)) ∗ (bigSep (Finset.Ico 0 6) fun k => cred (tallyAt (dcell c (19 + k)) () N)))
/-- Its gathered array, block by block: its own four, the six its left neighbour sends to, the six its right neighbour does. -/
def Xg (c : Dev nD) : sProp 𝕄 :=
  iprop((bigSep (Finset.Ico 0 4) fun k => xgAny c (c, bk k))
    ∗ (bigSep (Finset.Ico 0 6) fun k => xgAny c (slotR (lf c) k)) ∗ (bigSep (Finset.Ico 0 6) fun k => xgAny c (slotL (rt c) k)))
/-- Some contents for the rounded columns. -/
def AnyW (c : Dev nD) : sProp 𝕄 :=
  iprop(∃ f : Buf (Elt F) ((c : Thread nD τ).loc cc0_scratch2), (c : Thread nD τ).loc cc0_scratch2 ↦[Finset.univ]{fullShare} f)
/-- The tiles in the device's own memory. -/
def Tiles (c : Dev nD) : sProp 𝕄 := iprop(AnyXf c ∗ AnyX c ∗ AnyW c ∗ AnyWf c ∗ AnyO c)
/-- The result's array, at some contents; and the result. -/
def AnyOut (c : Dev nD) : sProp 𝕄 :=
  iprop(∃ f : Buf (Elt F) ((c : Thread nD τ).loc main_v1_0), (c : Thread nD τ).loc main_v1_0 ↦[Finset.univ]{fullShare} f)
def Res (c : Dev nD) : sProp 𝕄 := (c : Thread nD τ).loc main_v1_0 ↦[Finset.univ]{fullShare} (OUT m c)
/-- The protocol's semaphores of a device at zero. -/
def Zeros (c : Dev nD) : sProp 𝕄 :=
  iprop((bigSep (Finset.Ico 0 6) fun k => semVal (dcell c (1 + k)) 0) ∗ (bigSep (Finset.Ico 0 6) fun k => semVal (dcell c (7 + k)) 0)
    ∗ (bigSep (Finset.Ico 0 6) fun k => semVal (dcell c (13 + k)) 0) ∗ (bigSep (Finset.Ico 0 6) fun k => semVal (dcell c (19 + k)) 0))

/-- Before the body, -/
def Before (c : Dev nD) : sProp 𝕄 :=
  iprop(Pay c ∗ Pos c ∗ Crd c ∗ semVal (dcell c 0) 0 ∗ Xg c ∗ Tiles c ∗ XIn m c ∗ WIn m c ∗ AnyOut c ∗ ∃ W, owes (c : Thread nD τ) (O₀ c) W)
/-- and after it. -/
def After (c : Dev nD) : sProp 𝕄 :=
  iprop(XIn m c ∗ WIn m c ∗ Res m c ∗ Tiles c ∗ semVal (bcell c) 0 ∗ semVal (dcell c 0) 0 ∗ Zeros c ∗ Ow c 6 6)

/-! ## The body -/

/-- Every device of the ring, from one of them. -/
theorem around : ∀ c q : Dev nD, q = c ∨ q = lf c ∨ q = rt c ∨ q = dg c := by decide

section Body

variable (K : Dev nD × Fin 25 → ℕ) (c : Dev nD)

/-- A counted loop by its trips. -/
theorem wp_loop (l : Scf.Loop 32) (hok : l.OK) {n : ℕ} (hn : l.trips = n) (body : Fin l.trips → Unit → Prog (TpuEff nD τ sig (Elt F) Λ₀ .tc) Unit)
    (I : ℕ → sProp 𝕄) (h : ∀ t : Fin l.trips, iprop(Env m K ∗ I t.val) ⊢ WP c (body t ()) (fun _ => iprop(Env m K ∗ I (t.val + 1))))
    {α : Type} {Q : α → sProp 𝕄} {k : Unit → Prog (TpuEff nD τ sig (Elt F) Λ₀ .tc) α} :
    iprop(Env m K ∗ I 0) ⊢ iprop((I n -∗ WP c (k ⟨⟩) Q) -∗ WP c (Scf.Loop.for l hok ⟨⟩ body >>= k) Q) := by
  subst hn
  iintro H Hk
  iapply (Scf.wp_for_bind frame (wpE (defs₀ (F := F)) 𝒱₀ (c : Thread nD τ) none) Set.univ l.lb l.ub l.st hok ⟨⟩ body
    (fun t _ => iprop(Env m K ∗ I t)) (fun t _ => h t)) $$ [H]
  · iexact H
  iintro %acc ⟨-, HI⟩
  iapply Hk
  iexact HI

theorem runs2 {A B : ℕ → sProp 𝕄} {s : Finset ℕ} : iprop(bigSep s A ∗ bigSep s B) ⊢ bigSep s (fun k => iprop(A k ∗ B k)) :=
  Entails.of_eq (bigSep_sep' s A B).symm

theorem run_nil (A : ℕ → sProp 𝕄) : (iprop(emp) : sProp 𝕄) ⊢ bigSep (Finset.Ico 0 0) A := Entails.of_eq rfl

theorem snd_intro (d : Dev nD) (p : ℕ → Fin 4 × Fin 4) (s r : ℕ) :
    iprop((bigSep (Finset.Ico 0 6) fun k => xgAny d (p k)) ∗ (bigSep (Finset.Ico 0 6) fun k => dutyTok ER (dcell c (s + k)) 0 false)
        ∗ (bigSep (Finset.Ico 0 6) fun k => dutyTok ER (dcell d (r + k)) 0 false) ∗ (bigSep (Finset.Ico 0 6) fun k => atPos ER (dcell c (s + k)) 0 ∅ 0))
      ⊢ (bigSep (Finset.Ico 0 6) fun k => SendRes c d (p k) (s + k) (r + k) : sProp 𝕄) := by
  unfold SendRes
  exact (BIClass.sep_mono (Entails.refl _) ((BIClass.sep_mono (Entails.refl _) runs2).trans runs2)).trans runs2

set_option maxHeartbeats 1600000 in
/-- The kernel's body on device `c`: it ends with the device's result, its factors as they were, and every semaphore at zero. -/
theorem sound_body :
    iprop(Env m K ∗ Before m c) ⊢ WP c (cc0__body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9) (fun _ => After m c) := by
  rw [cc0__body_eq_skeleton]; unfold cc0__body_skel
  rw [k0_part5_eq_skeleton]; unfold k0_part5_skel
  simp only [semSignalWord, semWaitWord, Prog.lift, Prog.bind_op, Prog.bind_ret, Prog.pure_eq_ret, wp_deviceId]
  simp only [dev1_eq c, dev2_eq c]
  unfold Before Pay Pos Crd Xg Tiles AnyW AnyOut
  iintro ⟨#HE, ⟨HtBL, HtBR, HtSR, HtSL, HtVR, HtVL⟩, ⟨HaB, HaSR, HaSL, HaVL, HaVR⟩, ⟨HcB, HcVL, HcVR⟩, Hz, ⟨Hown, HxL, HxR⟩,
    ⟨HXf, HX, ⟨%fw, HW⟩, HWf, HOt⟩, Hx, Hw, ⟨%fo, Hout⟩, ⟨%W, HO⟩⟩
  unfold Env
  icases HE with ⟨#HR, #Hlev⟩
  ihave HI := (Recs_bar m K (lf c)) $$ HR
  icases HI with ⟨#HIL, #HrL⟩
  ihave HI := (Recs_bar m K (rt c)) $$ HR
  icases HI with ⟨#HIR, #HrR⟩
  ihave HI := (Recs_bar m K c) $$ HR
  icases HI with ⟨#HIC, -⟩
  -- to the left neighbour's barrier, with the blocks the left neighbour sends to
  iapply (Rounds.wp_signal 𝒱₀ ER (ringRd m) (c : Thread nD τ) none (dst := (lf c : Thread nD τ)) (κ := K (lf c, 0))
      (d := true) (by rw [duties_bar]; exact Finset.mem_univ _) ((amount_bar m (lf c) true).trans (by decide)) ()
      ((owR c 0 + owL c 0) + tallyAt (bcell (rt c)) () 1) rfl) $$ [HO HtBL HxL]
  · isplitr; · iexact HIL
    isplitl [HO]; · iexact HO
    isplitl [HtBL]; · iexact HtBL
    isplitl [HxL]
    · rw [payload_bar_true]; unfold barPayR; rw [rt_lf]; iexact HxL
    iexact HrL
  iintro HO
  -- to the right neighbour's
  iapply (Rounds.wp_signal 𝒱₀ ER (ringRd m) (c : Thread nD τ) none (dst := (rt c : Thread nD τ)) (κ := K (rt c, 0))
      (d := false) (by rw [duties_bar]; exact Finset.mem_univ _) ((amount_bar m (rt c) false).trans (by decide)) ()
      (owR c 0 + owL c 0) rfl) $$ [HO HtBR HxR]
  · isplitr; · iexact HIR
    isplitl [HO]; · iexact HO
    isplitl [HtBR]; · iexact HtBR
    isplitl [HxR]
    · rw [payload_bar_false]; unfold barPayL; rw [lf_rt]; iexact HxR
    iexact HrR
  iintro HO
  -- the wait for both neighbours
  iapply (Rounds.wp_wait_rest_token 𝒱₀ ER (ringRd m) (c : Thread nD τ) none (κ := K (c, 0))
      (wpE_semWait_eq 𝒱₀ (c : Thread nD τ) none Set.univ) (Set.mem_univ _) () (O := owR c 0 + owL c 0) (W := W) (R := 0) (m := 0) (T := ∅)
      (by rw [expect_bar]; decide)) $$ [HcB HO HaB]
  · isplitr; · iexact HIC
    isplitl [HcB]; · iexact HcB
    isplitl [HO]; · iexact HO
    isplitr
    · iapply (mayWait_ow c (.reg barS) 0 0 (fun j _ _ => by show 1 < _; split <;> decide) (fun j _ _ => by show 1 < _; split <;> decide)); iexact Hlev
    iexact HaB
  iintro ⟨HO, HaB, -, Hpay⟩
  ihave Hpay := (Entails.of_eq (rest_bar m c)) $$ Hpay
  unfold barPayL barPayR
  icases Hpay with ⟨HpL, HpR⟩
  imod (Rounds.cell_close ER (ringRd m) (Set.mem_univ (K (c, 0))) (fun h => h) (R := 0 + 1) (duties_later m (bcell c))) $$ [HaB] with HzB
  · isplitr; · iexact HIC
    iexact HaB
  ihave HE : Env m K $$ []
  · unfold Env; isplitr; · iexact HR
    iexact Hlev
  icases HE with #HE
  -- the first loop
  iapply (wp_loop m K c k0_t1_loop k0_t1_ok trips1 _ (I1 m c) (trip1 m K c _ _)) $$ [Hown HpR HpL HtSR HtSL HtVR HtVL HaSR HaSL HXf HX Hx Hz HO]
  · isplitr; · iexact HE
    unfold I1 SndR SndL RS LS Ow
    isplitl [Hown]; · iexact Hown
    isplitl [HpR HtSR HtVR HaSR]
    · isplitl
      · iapply (snd_intro c (rt c) (slotR c) 1 13)
        isplitl [HpR]; · iexact HpR
        isplitl [HtSR]; · iexact HtSR
        isplitl [HtVR]; · iexact HtVR
        iexact HaSR
      · iapply (run_nil (fun k => Sent c (1 + k))); iempintro
    isplitl [HpL HtSL HtVL HaSL]
    · isplitl
      · iapply (snd_intro c (lf c) (slotL c) 7 19)
        isplitl [HpL]; · iexact HpL
        isplitl [HtSL]; · iexact HtSL
        isplitl [HtVL]; · iexact HtVL
        iexact HaSL
      · iapply (run_nil (fun k => Sent c (7 + k))); iempintro
    isplitr
    · iapply (run_nil (fun k => Blk m c (c, bk k) fullShare.right)); iempintro
    isplitl [HXf]; · iexact HXf
    isplitl [HX]; · iexact HX
    isplitl [Hx]; · iexact Hx
    isplitl [Hz]; · iexact Hz
    iexists _; iexact HO
  unfold I1
  iintro ⟨-, HSR, HSL, HB, HXf, HX, Hx, Hz, HO⟩
  -- the second
  iapply (wp_loop m K c k0_t2_loop k0_t2_ok trips2 _ (I2 m c) (trip2 m K c)) $$ [HWf Hw HW Hz HO]
  · isplitr; · iexact HE
    unfold I2 WBelow
    isplitl [HWf]; · iexact HWf
    isplitl [Hw]; · iexact Hw
    isplitl [HW]
    · iexists fw; isplitl [HW]; · iexact HW
      ipureintro; exact fun i hi => absurd hi (by omega)
    isplitl [Hz]; · iexact Hz
    iexact HO
  unfold I2 WBelow
  iintro ⟨HWf, Hw, ⟨%fw', HW, %hfw⟩, Hz, HO⟩
  obtain rfl : fw' = WB m c := funext fun i => hfw i (i 0).isLt
  -- the third
  iapply (wp_loop m K c k0_t3_loop k0_t3_ok trips3 _ (I3 m c) (trip3 m K c)) $$ [HX HW HOt Hout Hz HO HB]
  · isplitr; · iexact HE
    unfold I3 Comp OutP
    isplitr [HB]
    · isplitl [HX]; · iexact HX
      isplitl [HW]; · iexact HW
      isplitl [HOt]; · iexact HOt
      isplitl [Hout]
      · iexists fo; isplitl [Hout]; · iexact Hout
        ipureintro; rintro i ⟨j, hj, -⟩; exact absurd hj (by omega)
      isplitl [Hz]; · iexact Hz
      iexact HO
    iexact HB
  unfold I3
  iintro ⟨HC, -⟩
  -- the fourth
  iapply (wp_loop m K c k0_t4_loop k0_t4_ok trips4 _ (I4 m c) (trip4 m K c _ _)) $$ [HC HSR HSL HcVL HcVR HaVL HaVR]
  · isplitr; · iexact HE
    unfold I4 RcvLs RcvRs RcvL RcvR
    isplitl [HC]
    · iapply (Comp_congr m c _ _ (fun p hp => ?_) 4 4) $$ HC
      rcases hp with h | ⟨-, h⟩
      · exact ⟨p.2.val, p.2.isLt, Prod.ext h (Fin.ext (bk_val p.2.isLt).symm)⟩
      · exact absurd h (by omega)
    isplitl [HSR]; · iexact HSR
    isplitl [HSL]; · iexact HSL
    isplitl [HcVL HaVL]
    · isplitl
      · iapply (runs2 (s := Finset.Ico 0 6) (A := fun k => cred (tallyAt (dcell c (13 + k)) () N)) (B := fun k => atPos ER (dcell c (13 + k)) 0 ∅ 0))
        isplitl [HcVL]; · iexact HcVL
        iexact HaVL
      · iapply (run_nil (fun k => semVal (dcell c (13 + k)) 0)); iempintro
    isplitl [HcVR HaVR]
    · iapply (runs2 (s := Finset.Ico 0 6) (A := fun k => cred (tallyAt (dcell c (19 + k)) () N)) (B := fun k => atPos ER (dcell c (19 + k)) 0 ∅ 0))
      isplitl [HcVR]; · iexact HcVR
      iexact HaVR
    · iapply (run_nil (fun k => semVal (dcell c (19 + k)) 0)); iempintro
  unfold I4
  iintro ⟨HC, HSR, HSL, HRL, HRR⟩
  -- the fifth
  iapply (wp_loop m K c k0_t5_loop k0_t5_ok trips5 _ (I5 m c) (trip5 m K c _ _ _)) $$ [HC HRL HRR]
  · isplitr; · iexact HE
    unfold I5
    isplitl [HC]
    · iapply (Comp_congr m c (fun p => p.1 = c ∨ ((p.1 = lf c ∨ p.1 = rt c) ∧ p.2.val < 4))
        (fun p => p.1 ≠ dg c ∨ p.2.val < 0 ∨ (2 ≤ p.2.val ∧ p.2.val < 2 + 0)) (fun p hp => ?_) (4 + min 4 2) (4 + (4 - 2))) $$ HC
      have hr : p.1 ≠ dg c := by
        rcases hp with h | h | ⟨h1, h2⟩
        · exact h
        · exact absurd h (by omega)
        · exact absurd h2 (by omega)
      have h4 := p.2.isLt
      rcases around c p.1 with h | h | h | h
      · exact Or.inl h
      · exact Or.inr ⟨Or.inl h, h4⟩
      · exact Or.inr ⟨Or.inr h, h4⟩
      · exact absurd h hr
    isplitl [HRL]; · iexact HRL
    iexact HRR
  unfold I5
  iintro ⟨HC, HRL, HRR⟩
  -- the sixth
  unfold Comp OutP SndR SndL
  icases HC with ⟨HX, HW, HOt, ⟨%fo', Hout, %hfo⟩, Hz, HO⟩
  icases HSR with ⟨-, HSR⟩
  icases HSL with ⟨-, HSL⟩
  iapply (wp_loop m K c k0_t6_loop k0_t6_ok trips6 _ (I6 c) (trip6 m K c)) $$ [HO HSR HSL]
  · isplitr; · iexact HE
    unfold I6
    isplitl [HO]; · iexact HO
    isplitl [HSR]; · iexact HSR
    isplitl [HSL]; · iexact HSL
    isplitr
    · iapply (run_nil (fun k => semVal (dcell c (1 + k)) 0)); iempintro
    · iapply (run_nil (fun k => semVal (dcell c (7 + k)) 0)); iempintro
  unfold I6 RcvLs RcvRs
  iintro ⟨HO, -, -, HZR, HZL⟩
  icases HRL with ⟨-, HRL⟩
  icases HRR with ⟨-, HRR⟩
  obtain rfl : fo' = OUT m c := funext fun i => hfo i (by
    have h4 := (oblk i).2.isLt
    by_cases h : (oblk i).2.val < 2
    · exact Or.inr (Or.inl h)
    · exact Or.inr (Or.inr ⟨by omega, by omega⟩))
  iapply (wp_done c)
  unfold After Tiles Res Zeros AnyW
  isplitl [Hx]; · iexact Hx
  isplitl [Hw]; · iexact Hw
  isplitl [Hout]; · iexact Hout
  isplitl [HXf HX HW HWf HOt]
  · isplitl [HXf]; · iexact HXf
    isplitl [HX]; · iexact HX
    isplitl [HW]; · iexists _; iexact HW
    isplitl [HWf]; · iexact HWf
    iexact HOt
  isplitl [HzB]; · iexact HzB
  isplitl [Hz]; · iexact Hz
  isplitr [HO]
  · isplitl [HZR]; · iexact HZR
    isplitl [HZL]; · iexact HZL
    isplitl [HRL]; · iexact HRL
    iexact HRR
  iexact HO

end Body

end Cert.KernelIdeal.Ring
-- ==== Proof.Deal.lean ====
/-
# The ring all-gather product: what the launch deals, regrouped by who uses it

The semaphores of a device listed in the protocol's runs, the ghost state minted and dealt around the ring, the credits
for what the devices owe, and the gathered array cut into its sixteen blocks.
-/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores in runs -/

theorem runs25 (Ψ : ℕ → sProp 𝕄) :
    (bigSep Finset.univ fun k : Fin 25 => Ψ k.val)
      = iprop(Ψ 0 ∗ (bigSep (Finset.Ico 0 6) fun k => Ψ (1 + k)) ∗ (bigSep (Finset.Ico 0 6) fun k => Ψ (7 + k))
          ∗ (bigSep (Finset.Ico 0 6) fun k => Ψ (13 + k)) ∗ (bigSep (Finset.Ico 0 6) fun k => Ψ (19 + k))) := by
  have hi (s : ℕ) : Set.InjOn (fun k => s + k) (Finset.Ico 0 6 : Finset ℕ) := fun a _ b _ h => Nat.add_left_cancel h
  have e : (Finset.univ : Finset (Fin 25)).map Fin.valEmbedding
      = {0} ∪ ((Finset.Ico 0 6).image (fun k => 1 + k) ∪ ((Finset.Ico 0 6).image (fun k => 7 + k)
          ∪ ((Finset.Ico 0 6).image (fun k => 13 + k) ∪ (Finset.Ico 0 6).image (fun k => 19 + k)))) := by decide
  refine (bigSep_map Fin.valEmbedding (Φ := Ψ)).symm.trans ?_
  rw [e, bigSep_union (by decide), bigSep_union (by decide), bigSep_union (by decide), bigSep_union (by decide), bigSep_singleton,
    bigSep_image_of_injOn (hi 1), bigSep_image_of_injOn (hi 7), bigSep_image_of_injOn (hi 13), bigSep_image_of_injOn (hi 19)]
  rfl

/-- A device's semaphores of the protocol by number. -/
def gcell (c : Dev nD) (n : ℕ) : GSem nD τ sig := match n with | 0 => bcell c | n + 1 => dcell c (n + 1)
theorem gcell_add (c : Dev nD) (s k : ℕ) (hs : 0 < s) : gcell c (s + k) = dcell c (s + k) := by
  obtain ⟨s, rfl⟩ : ∃ s', s = s' + 1 := ⟨s - 1, by omega⟩
  rw [Nat.add_right_comm]; rfl

/-- Something of every semaphore of the protocol on a device: of the barrier, of the departures, of the arrivals. -/
theorem cells_runs (Φ : GSem nD τ sig → sProp 𝕄) (c : Dev nD) :
    (bigSep Finset.univ fun k : Fin 25 => Φ (kcell (c, k)))
      = iprop(Φ (bcell c) ∗ (bigSep (Finset.Ico 0 6) fun k => Φ (dcell c (1 + k))) ∗ (bigSep (Finset.Ico 0 6) fun k => Φ (dcell c (7 + k)))
          ∗ (bigSep (Finset.Ico 0 6) fun k => Φ (dcell c (13 + k))) ∗ (bigSep (Finset.Ico 0 6) fun k => Φ (dcell c (19 + k)))) := by
  have e : (fun k : Fin 25 => Φ (kcell (c, k))) = fun k : Fin 25 => (fun n => Φ (gcell c n)) k.val := by
    funext k; obtain ⟨_ | n, h⟩ := k <;> rfl
  rw [e]
  refine (runs25 (fun n => Φ (gcell c n))).trans ?_
  simp only [gcell_add c 1 _ (by decide), gcell_add c 7 _ (by decide), gcell_add c 13 _ (by decide), gcell_add c 19 _ (by decide)]
  rfl

/-- The kernel's own semaphores. -/
def osem : Fin 25 → SemLoc sig := fun n => .dma (dsem n.val)

theorem dsem_inj {a b : ℕ} (ha : a < 25) (hb : b < 25) (h : dsem a = dsem b) : a = b := by
  rw [← dsem_val ha, ← dsem_val hb, h]

theorem ownSemFacts : Pipeline.OwnSemFacts cfg0.spec osem where
  isScoped k := by revert k; decide
  inj a b h := Fin.ext (dsem_inj a.isLt b.isLt (SemLoc.dma.inj h))
  disj _ w := w.elim0

theorem ownSems0_runs (c : Dev nD) :
    (Pipeline.ownSems0 (Ix := Unit) (Name := ℕ) (U := UU) (Lvl := ℕ) (Val := Elt F) (τ := τ) osem c : sProp 𝕄)
      = iprop(semVal (dcell c 0) 0 ∗ Zeros c) := by
  unfold Pipeline.ownSems0 osem Zeros
  exact runs25 (fun n => semVal (dcell c n) 0)

theorem unscopedSems0_bar (c : Dev nD) : (unscopedSems0 c : sProp 𝕄) = semVal (bcell c) 0 := by
  unfold unscopedSems0; rw [bigSep_eq_bigSepL_of_eq [SemLoc.reg barS] (by decide) (by decide)]; rfl

/-! ## The ghost state minted -/

theorem csem_injective : Function.Injective csem := by
  rintro ⟨_ | a, ha⟩ ⟨_ | b, hb⟩ h
  · rfl
  · exact absurd h (fun h => by cases h)
  · exact absurd h (fun h => by cases h)
  · exact Fin.ext (dsem_inj ha hb (SemLoc.dma.inj h))

theorem kcell_injective : Function.Injective (kcell : Dev nD × Fin 25 → GSem nD τ sig) := by
  rintro ⟨c, k⟩ ⟨c', k'⟩ h
  have h1 : c = c' := congrArg (fun g : GSem nD τ sig => g.1.1) h
  exact Prod.ext h1 (csem_injective (congrArg Prod.snd h))

def ringCells : Finset (GSem nD τ sig) := Finset.univ.map ⟨kcell, kcell_injective⟩

/-- One duty of every semaphore, -/
def toksA : Finset (GSem nD τ sig × ℕ × Bool) :=
  Finset.univ.map ⟨fun ck : Dev nD × Fin 25 => (kcell ck, 0, false), fun a b h => kcell_injective (congrArg Prod.fst h)⟩
/-- and the barriers' second. -/
def toksB : Finset (GSem nD τ sig × ℕ × Bool) :=
  Finset.univ.map ⟨fun c : Dev nD => (bcell c, 0, true), fun a b h => congrArg (fun x : GSem nD τ sig × ℕ × Bool => x.1.1.1) h⟩

theorem toks_disjoint : Disjoint toksA toksB := by
  rw [Finset.disjoint_left]
  intro x hA hB
  obtain ⟨a, -, rfl⟩ := Finset.mem_map.1 hA
  obtain ⟨b, -, hb⟩ := Finset.mem_map.1 hB
  exact Bool.false_ne_true (congrArg (fun x : GSem nD τ sig × ℕ × Bool => x.2.2) hb).symm

/-- The duties of a device's own semaphores. -/
def toks (c : Dev nD) : sProp 𝕄 :=
  iprop((bigSep Finset.univ fun k : Fin 25 => dutyTok ER (kcell (c, k)) 0 false) ∗ dutyTok ER (bcell c) 0 true)

/-- What a device gets of the minted ghost state. -/
def G (c : Dev nD) : sProp 𝕄 :=
  iprop((bigSep Finset.univ fun k : Fin 25 => roundState ER (ringRd m) (kcell (c, k)) 0)
    ∗ (bigSep Finset.univ fun k : Fin 25 => atPos ER (kcell (c, k)) 0 ∅ 0) ∗ (bigSep Finset.univ fun k : Fin 25 => reached ER (kcell (c, k)) 0) ∗ toks c)

/-- What it holds of it once every semaphore's invariant stands. -/
def G' (c : Dev nD) : sProp 𝕄 := iprop(∃ K : Dev nD × Fin 25 → ℕ, Recs m K ∗ Pay c ∗ Pos c ∗ semVal (dcell c 0) 0)

theorem fund_ring : BI.own (ER (initOf ringCells (toksA ∪ toksB))) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep (toksA ∪ toksB) (fun x => (dutyTok ER x.1 x.2.1 x.2.2 : sProp 𝕄)) = bigSep Finset.univ fun c : Dev nD => toks c := by
    rw [bigSep_union toks_disjoint]
    unfold toksA toksB toks
    rw [bigSep_map, bigSep_map, bigSep_univ_prod, bigSep_sep']
    rfl
  iintro HX
  imod (Rounds.fund ER (ringRd m) ringCells (toksA ∪ toksB)) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (ringRd m) κ (kcell (c, k))))
          ∗ (bigSep Finset.univ fun k : Fin 25 => reached ER (kcell (c, k)) 0) ∗ (Pos c ∗ semVal (dcell c 0) 0) ∗ toks c) := by
  rw [ownSems0_runs, unscopedSems0_bar]
  unfold G Zeros
  iintro ⟨⟨Hz, H1, H2, H3, H4⟩, HB, Hst, Hat, Hr, Htok⟩
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k : Fin 25 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [HB H1 H2 H3 H4 Hst] with Hinv
  · isplitr [Hst]
    · rw [cells_runs (fun g => semVal g 0) c]
      isplitl [HB]; · iexact HB
      isplitl [H1]; · iexact H1
      isplitl [H2]; · iexact H2
      isplitl [H3]; · iexact H3
      iexact H4
    iexact Hst
  imodintro
  isplitl [Hinv]; · iexact Hinv
  isplitl [Hr]; · iexact Hr
  isplitr [Htok]
  · isplitl [Hat]
    · unfold Pos; rw [← cells_runs (fun g => atPos ER g 0 ∅ 0) c]; iexact Hat
    iexact Hz
  iexact Htok

/-- Every duty to the device that pays it. -/
theorem toks_around : (bigSep Finset.univ fun c : Dev nD => (toks c : sProp 𝕄)) ⊢ bigSep Finset.univ fun c : Dev nD => Pay c := by
  unfold toks Pay
  simp only [cells_runs (fun g => (dutyTok ER g 0 false : sProp 𝕄)), bigSep_sep']
  rw [bigSep_univ_equiv ring (fun c : Dev nD => (dutyTok ER (bcell c) 0 false : sProp 𝕄)),
    bigSep_univ_equiv ring.symm (fun c : Dev nD => (dutyTok ER (bcell c) 0 true : sProp 𝕄)),
    bigSep_univ_equiv ring (fun c : Dev nD => (bigSep (Finset.Ico 0 6) fun k => dutyTok ER (dcell c (13 + k)) 0 false : sProp 𝕄)),
    bigSep_univ_equiv ring.symm (fun c : Dev nD => (bigSep (Finset.Ico 0 6) fun k => dutyTok ER (dcell c (19 + k)) 0 false : sProp 𝕄))]
  iintro ⟨⟨H1, H2, H3, H4, H5⟩, H6⟩
  isplitl [H6]; · iexact H6
  isplitl [H1]; · iexact H1
  isplitl [H2]; · iexact H2
  isplitl [H3]; · iexact H3
  isplitl [H4]; · iexact H4
  iexact H5

theorem to_each {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (BIClass.sep_mono (BI.bigSep_of_persistent S R) (Entails.refl _)).trans (by rw [← bigSep_sep']; exact bigSep_mono fun i _ => h i)

theorem regroup :
    (bigSep Finset.univ fun c : Dev nD => iprop((bigSep Finset.univ fun k : Fin 25 => iprop(∃ κ : ℕ, cellInv ER (ringRd m) κ (kcell (c, k))))
          ∗ (bigSep Finset.univ fun k : Fin 25 => reached ER (kcell (c, k)) 0) ∗ (Pos c ∗ semVal (dcell c 0) 0) ∗ toks c) : sProp 𝕄)
      ⊢ bigSep Finset.univ (G' m) := by
  rw [bigSep_sep', bigSep_sep', bigSep_sep', ← bigSep_univ_prod (fun ck : Dev nD × Fin 25 => iprop(∃ κ : ℕ, cellInv ER (ringRd m) κ (kcell ck))),
    ← bigSep_univ_prod (fun ck : Dev nD × Fin 25 => (reached ER (kcell ck) 0 : sProp 𝕄))]
  iintro ⟨HI, #HR, Hpos, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (to_each (R := Recs m K) (Φ := fun c : Dev nD => iprop(Pay c ∗ Pos c ∗ semVal (dcell c 0) 0)) (Ψ := G' m) fun c => by
    unfold G'; iintro H; iexists K; iexact H)
  isplitr
  · unfold Recs; isplitl; · iexact HI
    iexact HR
  · iapply (Entails.of_eq (bigSep_sep' Finset.univ (fun c : Dev nD => Pay c) (fun c : Dev nD => iprop(Pos c ∗ semVal (dcell c 0) 0))).symm)
    isplitl [Htk]; · iexact Htk
    iexact Hpos

/-- Every device's semaphores at once become the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- Each device owing one neighbour `n` at one semaphore, each has that credit there. -/
theorem launch_one (e : Dev nD ≃ Dev nD) (f : Dev nD → Dev nD) (hf : ∀ d, f d = e d) (s : SemLoc sig) (n : ℕ) (c : Dev nD) :
    (Pipeline.launchCred (fun d => tallyAt ((f d : Thread nD τ), s) () n) c : sProp 𝕄) ⊢ cred (tallyAt ((c : Thread nD τ), s) () n) := by
  refine (Pipeline.launchCred_elim _ c s).trans (Entails.of_eq (congrArg cred ?_))
  refine congrArg (tallyOn ((c : Thread nD τ), s)) (Finsupp.ext fun u => ?_)
  cases u
  rw [Pipeline.launchCredit_owing, Finset.sum_eq_single (e.symm c), hf, Equiv.apply_symm_apply, tallyAt_apply, if_pos ⟨rfl, rfl⟩, Finsupp.single_eq_same]
  · intro d _ hd
    rw [tallyAt_apply, if_neg]
    rintro ⟨h, -⟩
    apply hd
    rw [show c = e d from (hf d).symm ▸ congrArg (fun g : GSem nD τ sig => g.1.1) h, Equiv.symm_apply_apply]
  · exact fun h => absurd (Finset.mem_univ _) h

theorem creds (c : Dev nD) : (Pipeline.launchCred O₀ c : sProp 𝕄) ⊢ Crd c := by
  rw [show (O₀ : Dev nD → CellTallies nD τ sig Unit) = fun d => ((fun d => (fun d => owR d 0) d + (fun d => owL d 0) d) d
      + (fun d => tallyAt (bcell (rt d)) () 1) d) + (fun d => tallyAt (bcell (lf d)) () 1) d from rfl,
    Pipeline.launchCred_add (fun d => (owR d 0 + owL d 0) + tallyAt (bcell (rt d)) () 1) (fun d => tallyAt (bcell (lf d)) () 1) c,
    Pipeline.launchCred_add (fun d => owR d 0 + owL d 0) (fun d => tallyAt (bcell (rt d)) () 1) c,
    Pipeline.launchCred_add (fun d => owR d 0) (fun d => owL d 0) c]
  unfold owR owL
  rw [Pipeline.launchCred_sum (Finset.Ico 0 6) (fun j d => tallyAt (dcell (rt d) (13 + j)) () N) c,
    Pipeline.launchCred_sum (Finset.Ico 0 6) (fun j d => tallyAt (dcell (lf d) (19 + j)) () N) c]
  unfold Crd
  iintro ⟨⟨⟨HR, HL⟩, H1⟩, H2⟩
  ihave H1 := (launch_one ring rt (fun _ => rfl) (.reg barS) 1 c) $$ H1
  ihave H2 := (launch_one ring.symm lf (fun _ => rfl) (.reg barS) 1 c) $$ H2
  isplitl [H1 H2]
  · rw [show (2 : ℕ) = 1 + 1 from rfl, ← tallyAt_add]
    iapply (cred_add _ _).2
    isplitl [H1]; · iexact H1
    iexact H2
  isplitl [HR]
  · iapply (show (bigSep (Finset.Ico 0 6) fun j => Pipeline.launchCred (fun d => tallyAt (dcell (rt d) (13 + j)) () N) c : sProp 𝕄)
      ⊢ bigSep (Finset.Ico 0 6) fun j => cred (tallyAt (dcell c (13 + j)) () N) from
        bigSep_mono fun j _ => launch_one ring rt (fun _ => rfl) (.dma (dsem (13 + j))) N c)
    iexact HR
  · iapply (show (bigSep (Finset.Ico 0 6) fun j => Pipeline.launchCred (fun d => tallyAt (dcell (lf d) (19 + j)) () N) c : sProp 𝕄)
      ⊢ bigSep (Finset.Ico 0 6) fun j => cred (tallyAt (dcell c (19 + j)) () N) from
        bigSep_mono fun j _ => launch_one ring.symm lf (fun _ => rfl) (.dma (dsem (19 + j))) N c)
    iexact HL

/-! ## The gathered array -/

theorem blk_mem {p : Fin 4 × Fin 4} {i : S4x2048x8192.Idx} (h : i ∈ (blkP p).view.set) :
    (i 0).val = p.1.val ∧ (i 1).val / 512 = p.2.val := by
  rw [show (blkP p).view.set = ((Memref.whole main_v1_1).slice (Rect.unit (s := S4x2048x8192) ![p.1.val, 512 * p.2.val, 0] S1x512x8192.size
    (blk_inb p.1 p.2)) (fun _ => rfl)).view.set from View.set_reshape _ _] at h
  obtain ⟨x, -, rfl⟩ := Finset.mem_map.1 h
  have hx0 : (x 0).val < 1 := (x 0).isLt
  have hx1 : (x 1).val < 512 := (x 1).isLt
  constructor
  · show p.1.val + 1 * (x 0).val = p.1.val
    omega
  · show (512 * p.2.val + 1 * (x 1).val) / 512 = p.2.val
    omega

theorem blk_disjoint {p q : Fin 4 × Fin 4} (h : p ≠ q) : Disjoint (blkP p).view.set (blkP q).view.set := by
  rw [Finset.disjoint_left]
  intro i hp hq
  have h1 := blk_mem hp
  have h2 := blk_mem hq
  exact h (Prod.ext (Fin.ext (h1.1.symm.trans h2.1)) (Fin.ext (h1.2.symm.trans h2.2)))

theorem blocks_split (c : Dev nD) : (Finset.univ : Finset (Fin 4 × Fin 4))
    = (Finset.Ico 0 4).image (fun k => (c, bk k)) ∪ ((Finset.Ico 0 6).image (slotR (lf c)) ∪ (Finset.Ico 0 6).image (slotL (rt c))) := by
  revert c; decide

theorem disj1 (c : Dev nD) : Disjoint ((Finset.Ico 0 4).image fun k => (c, bk k))
    ((Finset.Ico 0 6).image (slotR (lf c)) ∪ (Finset.Ico 0 6).image (slotL (rt c)) : Finset (Fin 4 × Fin 4)) := by revert c; decide
theorem disj2 (c : Dev nD) : Disjoint ((Finset.Ico 0 6).image (slotR (lf c))) ((Finset.Ico 0 6).image (slotL (rt c))) := by revert c; decide
theorem xg_any (c : Dev nD) (p : Fin 4 × Fin 4) (f : Buf (Elt F) ((c : Thread nD τ).loc main_v1_1)) :
    ((c : Thread nD τ).loc main_v1_1 ↦[(blkP p).view.set]{fullShare} f : sProp 𝕄) ⊢ xgAny c p := by
  unfold xgAny; iintro H; iexists f; iexact H
theorem inj1 (c : Dev nD) : Set.InjOn (fun k => (c, bk k)) (Finset.Ico 0 4 : Finset ℕ) := by
  have h : ∀ a ∈ Finset.Ico 0 4, ∀ b ∈ Finset.Ico 0 4, bk a = bk b → a = b := by decide
  exact fun a ha b hb e => h a (Finset.mem_coe.1 ha) b (Finset.mem_coe.1 hb) (congrArg Prod.snd e)
theorem inj2 (c : Dev nD) : Set.InjOn (slotR (lf c)) (Finset.Ico 0 6 : Finset ℕ) := by
  have h : ∀ c : Dev nD, ∀ a ∈ Finset.Ico 0 6, ∀ b ∈ Finset.Ico 0 6, slotR (lf c) a = slotR (lf c) b → a = b := by decide
  exact fun a ha b hb e => h c a (Finset.mem_coe.1 ha) b (Finset.mem_coe.1 hb) e
theorem inj3 (c : Dev nD) : Set.InjOn (slotL (rt c)) (Finset.Ico 0 6 : Finset ℕ) := by
  have h : ∀ c : Dev nD, ∀ a ∈ Finset.Ico 0 6, ∀ b ∈ Finset.Ico 0 6, slotL (rt c) a = slotL (rt c) b → a = b := by decide
  exact fun a ha b hb e => h c a (Finset.mem_coe.1 ha) b (Finset.mem_coe.1 hb) e

theorem xg_split (c : Dev nD) (f : Buf (Elt F) ((c : Thread nD τ).loc main_v1_1)) :
    ((c : Thread nD τ).loc main_v1_1 ↦[Finset.univ]{fullShare} f : sProp 𝕄) ⊢ Xg c := by
  have h1 : (bigSep (Finset.univ : Finset (Fin 4 × Fin 4)) fun p => ((c : Thread nD τ).loc main_v1_1 ↦[(blkP p).view.set]{fullShare} f : sProp 𝕄))
      ⊢ bigSep Finset.univ fun p => xgAny c p := bigSep_mono fun p _ => xg_any c p f
  have h2 : (bigSep (Finset.univ : Finset (Fin 4 × Fin 4)) fun p => (xgAny c p : sProp 𝕄)) = Xg c := by
    unfold Xg
    rw [blocks_split c, bigSep_union (disj1 c), bigSep_union (disj2 c), bigSep_image_of_injOn (by exact inj1 c), bigSep_image_of_injOn (by exact inj2 c),
      bigSep_image_of_injOn (by exact inj3 c)]
    rfl
  refine ((pointsTo_split_subset (I := Finset.univ.biUnion fun p => (blkP p).view.set) (Finset.subset_univ _)).1).trans ?_
  refine BIBase.Entails.trans ?_ (h1.trans (Entails.of_eq h2))
  iintro ⟨H, -⟩
  iapply (Entails.of_eq (pointsTo_biUnion (ℓ := (c : Thread nD τ).loc main_v1_1) (q := fullShare) (f := f) Finset.univ
    (fun p : Fin 4 × Fin 4 => (blkP p).view.set) fun p _ q _ h => blk_disjoint h))
  iexact H

end Cert.KernelIdeal.Ring
-- ==== Proof.Run.lean ====
/-
# The ring all-gather product: the run of the program

From any memory with every semaphore at zero, on four devices: every weakly fair run ends, each device's result array
holding the result, its factors as they were and every semaphore at zero.
-/
module

public import proofs.«01_k».proof.Proof.Deal
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The body as the launch asks for it -/

/-- What a device starts the kernel from, its own memory apart. -/
def start (c : Dev nD) : sProp 𝕄 :=
  iprop(G' m c ∗ levAts L lv ∗ Crd c ∗ Xg c ∗ XIn m c ∗ WIn m c ∗ AnyOut c)
/-- What it leaves, its own memory and semaphores apart. -/
def left (c : Dev nD) : sProp 𝕄 := iprop(XIn m c ∗ WIn m c ∗ Res m c ∗ semVal (bcell c) 0)

def Φ₀ (c : Dev nD) : sProp 𝕄 := iprop(start m c ∗ Tiles c)
def Φ₁ (c : Dev nD) : sProp 𝕄 := iprop(left m c ∗ (semVal (dcell c 0) 0 ∗ Zeros c) ∗ Tiles c)

/-- The launch's data: no window, the one point between `Φ₀` and `Φ₁`, everything owed paid at it. -/
def dats (_ : Fin 1) (c : Dev nD) : Dat τ (Elt F) Unit ℕ UU ℕ cfg0 c where
  A w := (s₀ m ρ).mem ((cfg0.win w).arr.view.loc (c : Thread nD τ))
  after w _ := (show Fin 0 from w).elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem sound (c : Dev nD) :
    iprop(Φ₀ m c ∗ (dats m ρ 0 c).owesAt () (t0_0 : Fin cfg0.N).castSucc) ⊢ WP c (cc0__body (F := F) (Memref.whole main_arg0) (Memref.isWhole_whole _) (Memref.whole main_arg1) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9)
      (fun _ => iprop(Φ₁ m c ∗ (dats m ρ 0 c).owesAt () (t0_0 : Fin cfg0.N).succ ∗ emp)) := by
  have post : After m c ⊢ iprop(Φ₁ m c ∗ (dats m ρ 0 c).owesAt () (t0_0 : Fin cfg0.N).succ ∗ emp) := by
    unfold Dat.owesAt Pipeline.owesWithin
    rw [show (dats m ρ 0 c).owed (t0_0 : Fin cfg0.N).succ = 0 from rfl]
    unfold After Ow Φ₁ left
    iintro ⟨Hx, Hw, Hr, Ht, HB, Hz, HZ, ⟨%W', HO⟩⟩
    isplitl [Hx Hw Hr Ht HB Hz HZ]
    · isplitl [Hx Hw Hr HB]
      · isplitl [Hx]; · iexact Hx
        isplitl [Hw]; · iexact Hw
        isplitl [Hr]; · iexact Hr
        iexact HB
      isplitl [Hz HZ]
      · isplitl [Hz]; · iexact Hz
        iexact HZ
      iexact Ht
    isplitl [HO]
    · iexists W'
      isplitr; · ipureintro; exact fun _ _ => Or.inl trivial
      rw [owR_end, owL_end, add_zero]
      iexact HO
    iempintro
  unfold Dat.owesAt Pipeline.owesWithin
  rw [show (dats m ρ 0 c).owed (t0_0 : Fin cfg0.N).castSucc = O₀ c from rfl]
  unfold Φ₀ start G'
  iintro ⟨⟨⟨⟨%K, #HR, Hpay, Hpos, Hz⟩, #Hlev, Hcr, Hxg, Hx, Hw, Hout⟩, Ht⟩, ⟨%W, %hW, HO⟩⟩
  iapply ((sound_body m K c).trans (wp_mono frame (wpE (defs₀ (F := F)) 𝒱₀ (c : Thread nD τ) none) Set.univ fun _ => post))
  unfold Env Before
  isplitr
  · isplitr; · iexact HR
    iexact Hlev
  isplitl [Hpay]; · iexact Hpay
  isplitl [Hpos]; · iexact Hpos
  isplitl [Hcr]; · iexact Hcr
  isplitl [Hz]; · iexact Hz
  isplitl [Hxg]; · iexact Hxg
  isplitl [Ht]; · iexact Ht
  isplitl [Hx]; · iexact Hx
  isplitl [Hw]; · iexact Hw
  isplitl [Hout]; · iexact Hout
  iexists W; iexact HO

/-- The launch's obligation of the body on device `c`. -/
theorem body_obligation (c : Dev nD) : BodyObligation (dats (F := F) m ρ 0 c) (defs₀ (F := F)) 𝒱₀ () Set.univ := fun t => by
  rw [fin_N0 t, show (dats m ρ 0 c).Φ (t0_0 : Fin cfg0.N).castSucc = Φ₀ m c from rfl]
  refine BIBase.Entails.trans ?_ (sound m ρ c)
  iintro ⟨H, HO, -⟩
  isplitl [H]; · iexact H
  iexact HO

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Ho, Hg⟩, Hlev, Hcr, -, HG⟩
  ihave Hc := (creds (F := F) c) $$ Hcr
  ihave Hxg := (xg_split c _) $$ Hg
  imodintro
  unfold start XIn WIn AnyOut
  isplitl
  · isplitl [HG]; · iexact HG
    isplitl [Hlev]; · iexact Hlev
    isplitl [Hc]; · iexact Hc
    isplitl [Hxg]; · iexact Hxg
    isplitl [Hx]; · iexact Hx
    isplitl [Hw]; · iexact Hw
    iexists _; iexact Ho
  · iempintro

theorem tiles_eq (c : Dev nD) : (Pipeline.scopedRest (Ix := Unit) (Name := ℕ) (U := UU) (Lvl := ℕ) (Val := Elt F) cfg0.spec c : sProp 𝕄) = Tiles c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, tiles_eq]
  unfold Φ₀
  iintro ⟨Hs, -, Hr⟩
  isplitl [Hs]; · iexact Hs
  iexact Hr

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, tiles_eq, ownSems0_runs]
  exact Entails.refl _

theorem waits (c : Dev nD) : (levAts L lv : sProp 𝕄) ⊢ Pipeline.cellsWaits cfgs (dats m ρ) () 0 c :=
  Pipeline.cellsWaits_intro cfgs (dats m ρ) () 0 c fun w => (show Fin 0 from w).elim0

/-- What a device's final memory holds. -/
def Final (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1_0) = OUT m c

theorem final_read (c : Dev nD) (s' : Phys nD τ sig (Elt F)) :
    iprop(left m c ∗ emp ∗ SI s')
      ⊢ |={Set.univ}=> iprop(⌜Final m c s'.mem ∧ ∀ sm : SemLoc sig, sm.isScoped .tc = false → s'.mem.sem ((c.tc : Thread nD τ), sm) = 0⌝ ∗ SI s' : sProp 𝕄) := by
  unfold left XIn WIn Res
  iintro ⟨⟨Hx, Hw, Hr, HB⟩, -, HSI⟩
  icombine HSI Hx gives %hx
  icombine HSI Hw gives %hw
  icombine HSI Hr gives %hr
  imod (Pipeline.unscopedSems0_read (X := semVal (bcell c) 0) (c := c) (by rw [unscopedSems0_bar]; exact fupd_intro) s') $$ [HB HSI] with ⟨%hs, HSI⟩
  · isplitl [HB]; · iexact HB
    iexact HSI
  imodintro
  isplitr
  · ipureintro
    exact ⟨⟨Buf.eq_of_forall_mem_univ hx, Buf.eq_of_forall_mem_univ hw, Buf.eq_of_forall_mem_univ hr⟩, hs⟩
  iexact HSI

/-! ## The run -/

set_option maxRecDepth 8000 in
/-- On four devices, for any float values, from any memory with every semaphore at zero: every weakly fair run of @main
    ends, and at its end each device's result array holds the result, its factors are as they were and every semaphore is
    at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0)
    (hshare := fun _ w => (show Fin 0 from w).elim0)
    (hdistinct := winFacts0.arr_inj)
    (O₀ := O₀) (howed₀ := fun _ => rfl) (howedN := fun _ => rfl)
    (L := L) (lv := lv) (hL := L_of_ne) (hwaits := waits m ρ)
    (G := G m) (G' := G' m)
    (u₀ := (initOf (Pipeline.cells cfgs cellOf_inj) (Pipeline.launchToks cfgs cellOf_inj), (initOf ringCells (toksA ∪ toksB), 1)))
    (hu₀ := by
      iintro Hu
      ihave H := (ownU_pair _ _) $$ Hu
      icases H with ⟨HP, HX⟩
      ihave HX := (own_pair_emb _ _ _) $$ HX
      icases HX with ⟨HX, -⟩
      imod (fund_ring m) $$ HX with HG
      imodintro
      isplitl [HP]; · iexact HP
      iexact HG)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => Final m c s ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.KernelIdeal.Ring
-- ==== Proof.Value.lean ====
/-
# The ring all-gather product: its value

At the ideal values a change of format changes nothing, so the block of the gathered array an element lies in is a block of
rows of the whole left factor, and the element is the sum over the contracted coordinate of that row times the device's
column: the element of the whole product at the same place.
-/
module

public import proofs.«01_k».proof.Proof.Schedule
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdeal.Ring

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- The left factor's tiling: four blocks of rows. -/
theorem tilesX : Layout.Tiles ⟨2, ![2048, 8192]⟩ ⟨2, ![8192, 8192]⟩ 0 4 := by decide

/-- The columns' tiling, of the right factor and of the result: four blocks of columns. -/
theorem tilesW : Layout.Tiles ⟨2, ![8192, 1024]⟩ ⟨2, ![8192, 4096]⟩ 1 4 := by decide

/-- A block's product, at the ideal values, at an element: the sum over the contracted coordinate. -/
theorem pay2_apply (A : Vec Ideal S512x8192 .bf16) (B : Vec Ideal S8192x1024 .bf16) (r : Fin 512) (l : Fin 1024) :
    k0_pay2 (F := Ideal) A B (ix2 r l) = ∑ k : Fin 8192, (A (ix2 r k) : EReal) * (B (ix2 k l) : EReal) := by
  unfold k0_pay2
  rw [shapeCast_self]
  refine (Ideal.matmul_plain_apply (M := 512) (K := 8192) (N := 1024) none A B _ r l).trans ?_
  show Ideal.ofBits .f32 0x00000000#32 + _ = _
  rw [Ideal.ofBits_zero_f32, zero_add]

/-- The whole product, at the ideal values, at an element: the same sum. -/
theorem ref_apply (A : FVec Ideal ⟨2, ![8192, 8192]⟩ .f32) (B : FVec Ideal ⟨2, ![8192, 4096]⟩ .f32) (r : Fin 8192) (l : Fin 4096) :
    Host.dotGeneral Cert.ReferenceIdeal.dot_S8192x8192_S8192x4096_S8192x4096_1_0_0_1_n_n none A B (ix2 r l)
      = ∑ k : Fin 8192, (A (ix2 r k) : EReal) * (B (ix2 k l) : EReal) :=
  StackMember.dotGeneral_plain_apply (m := 8192) (k := 8192) (n := 4096) none A B r l

/-- A rounded block, at the ideal values, at an element: the device's row there, unrounded. -/
theorem Xb_apply (p : Fin 4 × Fin 4) (r : Fin 512) (k : Fin 8192) (h : 512 * p.2.val + r.val < 2048) :
    Xb m p (ix2 r k) = m ((p.1 : Thread nD τ).loc main_arg0) (ix2 (⟨512 * p.2.val + r.val, h⟩ : Fin 2048) k) := by
  unfold Xb k0_pay4
  dsimp only
  rw [shapeCast_self]
  show m ((p.1 : Thread nD τ).loc main_arg0) ((xrow p.2).view.emb (ix2 r k)) = _
  congr 1
  funext a; apply Fin.ext
  match a with
  | ⟨0, _⟩ => show 512 * p.2.val + 1 * r.val = 512 * p.2.val + r.val; omega
  | ⟨1, _⟩ => show 0 + 1 * k.val = k.val; omega

/-- The result on device `c` is its block of columns of the product of the two whole factors, each device holding its block
    of rows of the left factor and its block of columns of the right. -/
theorem OUT_eq (X : FVec Ideal ⟨2, ![8192, 8192]⟩ .f32) (W : FVec Ideal ⟨2, ![8192, 4096]⟩ .f32)
    (hX : ∀ c : Dev nD, m ((c : Thread nD τ).loc main_arg0) = Layout.block ⟨2, ![2048, 8192]⟩ ⟨2, ![8192, 8192]⟩ 0 4 c X tilesX)
    (hW : ∀ c : Dev nD, m ((c : Thread nD τ).loc main_arg1) = Layout.block ⟨2, ![8192, 1024]⟩ ⟨2, ![8192, 4096]⟩ 1 4 c W tilesW)
    (c : Dev nD) :
    OUT m c = Layout.block ⟨2, ![8192, 1024]⟩ ⟨2, ![8192, 4096]⟩ 1 4 c
      (Host.dotGeneral Cert.ReferenceIdeal.dot_S8192x8192_S8192x4096_S8192x4096_1_0_0_1_n_n none X W) tilesW := by
  funext i
  have hr : (i 0).val < 8192 := (i 0).isLt
  have hl : (i 1).val < 1024 := (i 1).isLt
  have hc : c.val < 4 := c.isLt
  have e1 : oloc i = ix2 (⟨(i 0).val % 512, Nat.mod_lt _ (by decide)⟩ : Fin 512) (⟨(i 1).val, hl⟩ : Fin 1024) := by
    funext a; match a with
    | ⟨0, _⟩ => rfl
    | ⟨1, _⟩ => rfl
  have e2 : tilesW.idx c i = ix2 (⟨(i 0).val, hr⟩ : Fin 8192) (⟨c.val * 1024 + (i 1).val, by omega⟩ : Fin 4096) := by
    funext a; match a with
    | ⟨0, _⟩ => rfl
    | ⟨1, _⟩ => rfl
  rw [Layout.block_apply, e2, ref_apply]
  unfold OUT
  rw [e1, pay2_apply]
  refine Finset.sum_congr rfl fun k _ => ?_
  have hb : (oblk i).2.val = (i 0).val % 2048 / 512 := by
    show (i 0).val % 2048 / 512 % 4 = _; omega
  have hq : (oblk i).1.val = (i 0).val / 2048 := by
    show (i 0).val / 2048 % 4 = _; omega
  rw [Xb_apply m (oblk i) _ k (by show 512 * (oblk i).2.val + (i 0).val % 512 < 2048; omega), hX]
  have e3 : WB m c (ix2 k (⟨(i 1).val, hl⟩ : Fin 1024)) = W (ix2 k (⟨c.val * 1024 + (i 1).val, by omega⟩ : Fin 4096)) := by
    show m ((c : Thread nD τ).loc main_arg1) _ = _
    rw [hW, Layout.block_apply]
    congr 1
    funext a; match a with
    | ⟨0, _⟩ => rfl
    | ⟨1, _⟩ => rfl
  have e4 : tilesX.idx (oblk i).1 (ix2 (⟨512 * (oblk i).2.val + (i 0).val % 512, by omega⟩ : Fin 2048) k) = ix2 (⟨(i 0).val, hr⟩ : Fin 8192) k := by
    funext a; apply Fin.ext
    match a with
    | ⟨0, _⟩ => show (oblk i).1.val * 2048 + (512 * (oblk i).2.val + (i 0).val % 512) = (i 0).val; omega
    | ⟨1, _⟩ => rfl
  rw [Layout.block_apply, e3]
  exact congrArg (fun j => (X j : EReal) * _) e4

end Cert.KernelIdeal.Ring

end
-- ==== Proof.lean ====
/-
# The ring all-gather product: the claim

Four devices, each holding a block of rows of the left factor and a block of columns of the right, pass the rounded rows
round a ring both ways and multiply each block by their own columns. Proof/Run.lean proves the kernel's run and its result
for any float values (Proof/Kernel/Run.lean the same of the program that is read bit by bit), Proof/Value.lean that the
result, at the ideal values, is each device's columns of the whole product. Here the five claims are put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Kernel.Run
public import Idealize.ShloMosaic.Adequacy
public import Idealize.ShloMosaic.Init

@[expose] public section

noncomputable section

namespace Cert.Proof

open Idealize.ShloMosaic Idealize.SL.Sem

/-- The kernel, at the bit-exact floats, ends on every device with its factors unchanged and every semaphore at zero. -/
theorem frame_kernel : Cert.quiescent_Kernel := by
  intro m ρ _
  exact (θ_run Cert.Kernel.defs _ _).mono (fun _ h => ⟨fun c => ⟨(h.1 c).1, (h.1 c).2.1⟩, h.2⟩)
    (Cert.Kernel.Ring.run_main (F := Bits) m ρ)

/-- So does the kernel at the ideal values. -/
theorem frame_kernelIdeal : Cert.quiescent_KernelIdeal := by
  intro m ρ _
  exact (θ_run Cert.KernelIdeal.defs _ _).mono (fun _ h => ⟨fun c => ⟨(h.1 c).1, (h.1 c).2.1⟩, h.2⟩)
    (Cert.KernelIdeal.Ring.run_main (F := Ideal) m ρ)

/-- So does the reference, which has no semaphore. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel's result on each device is that device's columns of the product the reference computes of the whole factors,
    each device holding its rows of the left factor and its columns of the right. -/
theorem value : Cert.algebraic_KernelIdeal_ReferenceIdeal := by
  intro m ρ m' ρ' _ hagree
  refine ⟨Host.dotGeneral (F := Ideal) (φ₁ := .f32) (φ₂ := .f32) Cert.ReferenceIdeal.dot_S8192x8192_S8192x4096_S8192x4096_1_0_0_1_n_n none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).2.2.trans (Cert.KernelIdeal.Ring.OUT_eq m _ _ (fun d => (hagree d).1) (fun d => (hagree d).2) c),
        (h.1 c).1, (h.1 c).2.1⟩)
      (Cert.KernelIdeal.Ring.run_main (F := Ideal) m ρ)
  · exact (θ_run Cert.ReferenceIdeal.defs _ _).mono (fun _ h => h 0) (Cert.ReferenceIdeal.Value.run (F := Ideal) m' ρ')

/-- The five claims together. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
